-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv196" .f32 0x3BA72F05#32 ((1 / 196 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x224x224 : Shape := ⟨4, ![16, 3, 224, 224]⟩
abbrev S96x3x3x3 : Shape := ⟨4, ![96, 3, 3, 3]⟩
abbrev S96 : Shape := ⟨1, ![96]⟩
abbrev S192x96x3x3 : Shape := ⟨4, ![192, 96, 3, 3]⟩
abbrev S192 : Shape := ⟨1, ![192]⟩
abbrev S384x192x3x3 : Shape := ⟨4, ![384, 192, 3, 3]⟩
abbrev S384 : Shape := ⟨1, ![384]⟩
abbrev S768x384x3x3 : Shape := ⟨4, ![768, 384, 3, 3]⟩
abbrev S768 : Shape := ⟨1, ![768]⟩
abbrev S1024x768 : Shape := ⟨2, ![1024, 768]⟩
abbrev S_ : Shape := ⟨0, ![]⟩

class Facts : Prop where
  bcast_S_S16x3x224x224 : S_.BroadcastsInDim S16x3x224x224 (![] : Fin 0 → Fin S16x3x224x224.rank)
  bcast_S_S96x3x3x3 : S_.BroadcastsInDim S96x3x3x3 (![] : Fin 0 → Fin S96x3x3x3.rank)
  bcast_S_S96 : S_.BroadcastsInDim S96 (![] : Fin 0 → Fin S96.rank)
  bcast_S_S192x96x3x3 : S_.BroadcastsInDim S192x96x3x3 (![] : Fin 0 → Fin S192x96x3x3.rank)
  bcast_S_S192 : S_.BroadcastsInDim S192 (![] : Fin 0 → Fin S192.rank)
  bcast_S_S384x192x3x3 : S_.BroadcastsInDim S384x192x3x3 (![] : Fin 0 → Fin S384x192x3x3.rank)
  bcast_S_S384 : S_.BroadcastsInDim S384 (![] : Fin 0 → Fin S384.rank)
  bcast_S_S768x384x3x3 : S_.BroadcastsInDim S768x384x3x3 (![] : Fin 0 → Fin S768x384x3x3.rank)
  bcast_S_S768 : S_.BroadcastsInDim S768 (![] : Fin 0 → Fin S768.rank)

variable [Facts]

def fn_part1 {F : FTy → Type} [FloatOps F] (main_arg6 : FVec F S384 .f32) (main_arg7 : FVec F S768x384x3x3 .f32) (main_arg8 : FVec F S768 .f32) (main_v2 : IVec S16x3x224x224 1) (main_v5 : IVec S96x3x3x3 1) (main_v8 : IVec S96 1) (main_v11 : IVec S192x96x3x3 1) (main_v14 : IVec S192 1) (main_v17 : IVec S384x192x3x3 1) : IVec S16x3x224x224 1 × IVec S96x3x3x3 1 × IVec S96 1 × IVec S192x96x3x3 1 × IVec S192 1 × IVec S384x192x3x3 1 × IVec S384 1 × IVec S768x384x3x3 1 × IVec S768 1 :=
  let main_v18 : FVec F S384 .f32 := Host.absf main_arg6
  let main_cst_5 : FVec F S_ .f32 := constant S_ .f32 0x7F800000#32
  let main_v19 : FVec F S384 .f32 := broadcastInDim S384 ![] bcast_S_S384 main_cst_5
  let main_v20 : IVec S384 1 := cmpf .olt main_v18 main_v19
  let main_v21 : FVec F S768x384x3x3 .f32 := Host.absf main_arg7
  let main_cst_6 : FVec F S_ .f32 := constant S_ .f32 0x7F800000#32
  let main_v22 : FVec F S768x384x3x3 .f32 := broadcastInDim S768x384x3x3 ![] bcast_S_S768x384x3x3 main_cst_6
  let main_v23 : IVec S768x384x3x3 1 := cmpf .olt main_v21 main_v22
  let main_v24 : FVec F S768 .f32 := Host.absf main_arg8
  let main_cst_7 : FVec F S_ .f32 := constant S_ .f32 0x7F800000#32
  let main_v25 : FVec F S768 .f32 := broadcastInDim S768 ![] bcast_S_S768 main_cst_7
  let main_v26 : IVec S768 1 := cmpf .olt main_v24 main_v25
  (main_v2, main_v5, main_v8, main_v11, main_v14, main_v17, main_v20, main_v23, main_v26)

def fn {F : FTy → Type} [FloatOps F] (main_arg0 : FVec F S16x3x224x224 .f32) (main_arg1 : FVec F S96x3x3x3 .f32) (main_arg2 : FVec F S96 .f32) (main_arg3 : FVec F S192x96x3x3 .f32) (main_arg4 : FVec F S192 .f32) (main_arg5 : FVec F S384x192x3x3 .f32) (main_arg6 : FVec F S384 .f32) (main_arg7 : FVec F S768x384x3x3 .f32) (main_arg8 : FVec F S768 .f32) (main_arg9 : FVec F S1024x768 .f32) : IVec S16x3x224x224 1 × IVec S96x3x3x3 1 × IVec S96 1 × IVec S192x96x3x3 1 × IVec S192 1 × IVec S384x192x3x3 1 × IVec S384 1 × IVec S768x384x3x3 1 × IVec S768 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_v3 : FVec F S96x3x3x3 .f32 := Host.absf main_arg1
  let main_cst_0 : FVec F S_ .f32 := constant S_ .f32 0x7F800000#32
  let main_v4 : FVec F S96x3x3x3 .f32 := broadcastInDim S96x3x3x3 ![] bcast_S_S96x3x3x3 main_cst_0
  let main_v5 : IVec S96x3x3x3 1 := cmpf .olt main_v3 main_v4
  let main_v6 : FVec F S96 .f32 := Host.absf main_arg2
  let main_cst_1 : FVec F S_ .f32 := constant S_ .f32 0x7F800000#32
  let main_v7 : FVec F S96 .f32 := broadcastInDim S96 ![] bcast_S_S96 main_cst_1
  let main_v8 : IVec S96 1 := cmpf .olt main_v6 main_v7
  let main_v9 : FVec F S192x96x3x3 .f32 := Host.absf main_arg3
  let main_cst_2 : FVec F S_ .f32 := constant S_ .f32 0x7F800000#32
  let main_v10 : FVec F S192x96x3x3 .f32 := broadcastInDim S192x96x3x3 ![] bcast_S_S192x96x3x3 main_cst_2
  let main_v11 : IVec S192x96x3x3 1 := cmpf .olt main_v9 main_v10
  let main_v12 : FVec F S192 .f32 := Host.absf main_arg4
  let main_cst_3 : FVec F S_ .f32 := constant S_ .f32 0x7F800000#32
  let main_v13 : FVec F S192 .f32 := broadcastInDim S192 ![] bcast_S_S192 main_cst_3
  let main_v14 : IVec S192 1 := cmpf .olt main_v12 main_v13
  let main_v15 : FVec F S384x192x3x3 .f32 := Host.absf main_arg5
  let main_cst_4 : FVec F S_ .f32 := constant S_ .f32 0x7F800000#32
  let main_v16 : FVec F S384x192x3x3 .f32 := broadcastInDim S384x192x3x3 ![] bcast_S_S384x192x3x3 main_cst_4
  let main_v17 : IVec S384x192x3x3 1 := cmpf .olt main_v15 main_v16
  fn_part1 (F := F) main_arg6 main_arg7 main_arg8 main_v2 main_v5 main_v8 main_v11 main_v14 main_v17
-- ==== Kernel.lean ====
abbrev S16x3x224x224 : Shape := ⟨4, ![16, 3, 224, 224]⟩
abbrev S96x3x3x3 : Shape := ⟨4, ![96, 3, 3, 3]⟩
abbrev S96 : Shape := ⟨1, ![96]⟩
abbrev S192x96x3x3 : Shape := ⟨4, ![192, 96, 3, 3]⟩
abbrev S192 : Shape := ⟨1, ![192]⟩
abbrev S384x192x3x3 : Shape := ⟨4, ![384, 192, 3, 3]⟩
abbrev S384 : Shape := ⟨1, ![384]⟩
abbrev S768x384x3x3 : Shape := ⟨4, ![768, 384, 3, 3]⟩
abbrev S768 : Shape := ⟨1, ![768]⟩
abbrev S1024x768 : Shape := ⟨2, ![1024, 768]⟩
abbrev S16x224x224x3 : Shape := ⟨4, ![16, 224, 224, 3]⟩
abbrev S16x112x224x3 : Shape := ⟨4, ![16, 112, 224, 3]⟩
abbrev S16x112x112x3 : Shape := ⟨4, ![16, 112, 112, 3]⟩
abbrev S_ : Shape := ⟨0, ![]⟩
abbrev S16x113x113x3 : Shape := ⟨4, ![16, 113, 113, 3]⟩
abbrev S16x1x113x113x3 : Shape := ⟨5, ![16, 1, 113, 113, 3]⟩
abbrev S16x4x113x113x3 : Shape := ⟨5, ![16, 4, 113, 113, 3]⟩
abbrev S16x4x12769x3 : Shape := ⟨4, ![16, 4, 12769, 3]⟩
abbrev S16x4x12922x3 : Shape := ⟨4, ![16, 4, 12922, 3]⟩
abbrev S16x1x12800x3 : Shape := ⟨4, ![16, 1, 12800, 3]⟩
abbrev S16x12800x3 : Shape := ⟨3, ![16, 12800, 3]⟩
abbrev S16x12800x27 : Shape := ⟨3, ![16, 12800, 27]⟩
abbrev S3x3x3x96 : Shape := ⟨4, ![3, 3, 3, 96]⟩
abbrev S27x96 : Shape := ⟨2, ![27, 96]⟩
abbrev S1x96 : Shape := ⟨2, ![1, 96]⟩
abbrev S16x12800x96 : Shape := ⟨3, ![16, 12800, 96]⟩
abbrev S1x640x27 : Shape := ⟨3, ![1, 640, 27]⟩
abbrev S1x640x96 : Shape := ⟨3, ![1, 640, 96]⟩
abbrev S640x27 : Shape := ⟨2, ![640, 27]⟩
abbrev S640x96 : Shape := ⟨2, ![640, 96]⟩
abbrev S16x12656x96 : Shape := ⟨3, ![16, 12656, 96]⟩
abbrev S16x112x113x96 : Shape := ⟨4, ![16, 112, 113, 96]⟩
abbrev S16x112x112x96 : Shape := ⟨4, ![16, 112, 112, 96]⟩
abbrev S16x56x112x96 : Shape := ⟨4, ![16, 56, 112, 96]⟩
abbrev S16x56x56x96 : Shape := ⟨4, ![16, 56, 56, 96]⟩
abbrev S16x57x57x96 : Shape := ⟨4, ![16, 57, 57, 96]⟩
abbrev S16x1x57x57x96 : Shape := ⟨5, ![16, 1, 57, 57, 96]⟩
abbrev S16x4x57x57x96 : Shape := ⟨5, ![16, 4, 57, 57, 96]⟩
abbrev S16x4x3249x96 : Shape := ⟨4, ![16, 4, 3249, 96]⟩
abbrev S16x4x3320x96 : Shape := ⟨4, ![16, 4, 3320, 96]⟩
abbrev S3x3x96x192 : Shape := ⟨4, ![3, 3, 96, 192]⟩
abbrev S9x96x192 : Shape := ⟨3, ![9, 96, 192]⟩
abbrev S1x192 : Shape := ⟨2, ![1, 192]⟩
abbrev S16x3256x192 : Shape := ⟨3, ![16, 3256, 192]⟩
abbrev S1x4x3320x96 : Shape := ⟨4, ![1, 4, 3320, 96]⟩
abbrev S1x296x192 : Shape := ⟨3, ![1, 296, 192]⟩
abbrev S1x1x360x96 : Shape := ⟨4, ![1, 1, 360, 96]⟩
abbrev S360x96 : Shape := ⟨2, ![360, 96]⟩
abbrev S296x192 : Shape := ⟨2, ![296, 192]⟩
abbrev S296x96 : Shape := ⟨2, ![296, 96]⟩
abbrev S1x96x192 : Shape := ⟨3, ![1, 96, 192]⟩
abbrev S96x192 : Shape := ⟨2, ![96, 192]⟩
abbrev S16x3192x192 : Shape := ⟨3, ![16, 3192, 192]⟩
abbrev S16x56x57x192 : Shape := ⟨4, ![16, 56, 57, 192]⟩
abbrev S16x56x56x192 : Shape := ⟨4, ![16, 56, 56, 192]⟩
abbrev S16x28x56x192 : Shape := ⟨4, ![16, 28, 56, 192]⟩
abbrev S16x28x28x192 : Shape := ⟨4, ![16, 28, 28, 192]⟩
abbrev S16x29x29x192 : Shape := ⟨4, ![16, 29, 29, 192]⟩
abbrev S16x1x29x29x192 : Shape := ⟨5, ![16, 1, 29, 29, 192]⟩
abbrev S16x4x29x29x192 : Shape := ⟨5, ![16, 4, 29, 29, 192]⟩
abbrev S16x4x841x192 : Shape := ⟨4, ![16, 4, 841, 192]⟩
abbrev S16x4x880x192 : Shape := ⟨4, ![16, 4, 880, 192]⟩
abbrev S3x3x192x384 : Shape := ⟨4, ![3, 3, 192, 384]⟩
abbrev S9x192x384 : Shape := ⟨3, ![9, 192, 384]⟩
abbrev S1x384 : Shape := ⟨2, ![1, 384]⟩
abbrev S16x816x384 : Shape := ⟨3, ![16, 816, 384]⟩
abbrev S1x4x880x192 : Shape := ⟨4, ![1, 4, 880, 192]⟩
abbrev S1x136x384 : Shape := ⟨3, ![1, 136, 384]⟩
abbrev S1x1x200x192 : Shape := ⟨4, ![1, 1, 200, 192]⟩
abbrev S200x192 : Shape := ⟨2, ![200, 192]⟩
abbrev S136x384 : Shape := ⟨2, ![136, 384]⟩
abbrev S136x192 : Shape := ⟨2, ![136, 192]⟩
abbrev S1x192x384 : Shape := ⟨3, ![1, 192, 384]⟩
abbrev S192x384 : Shape := ⟨2, ![192, 384]⟩
abbrev S16x812x384 : Shape := ⟨3, ![16, 812, 384]⟩
abbrev S16x28x29x384 : Shape := ⟨4, ![16, 28, 29, 384]⟩
abbrev S16x28x28x384 : Shape := ⟨4, ![16, 28, 28, 384]⟩
abbrev S16x14x28x384 : Shape := ⟨4, ![16, 14, 28, 384]⟩
abbrev S16x14x14x384 : Shape := ⟨4, ![16, 14, 14, 384]⟩
abbrev S16x15x15x384 : Shape := ⟨4, ![16, 15, 15, 384]⟩
abbrev S16x1x15x15x384 : Shape := ⟨5, ![16, 1, 15, 15, 384]⟩
abbrev S16x4x15x15x384 : Shape := ⟨5, ![16, 4, 15, 15, 384]⟩
abbrev S16x4x225x384 : Shape := ⟨4, ![16, 4, 225, 384]⟩
abbrev S16x4x248x384 : Shape := ⟨4, ![16, 4, 248, 384]⟩
abbrev S2x8x4x248x384 : Shape := ⟨5, ![2, 8, 4, 248, 384]⟩
abbrev S2x4x8x248x384 : Shape := ⟨5, ![2, 4, 8, 248, 384]⟩
abbrev S2x4x1984x384 : Shape := ⟨4, ![2, 4, 1984, 384]⟩
abbrev S3x3x384x768 : Shape := ⟨4, ![3, 3, 384, 768]⟩
abbrev S9x384x768 : Shape := ⟨3, ![9, 384, 768]⟩
abbrev S1x768 : Shape := ⟨2, ![1, 768]⟩
abbrev S16x768 : Shape := ⟨2, ![16, 768]⟩
abbrev S1x4x1984x384 : Shape := ⟨4, ![1, 4, 1984, 384]⟩
abbrev S8x768 : Shape := ⟨2, ![8, 768]⟩
abbrev S232x1 : Shape := ⟨2, ![232, 1]⟩
abbrev S232x384 : Shape := ⟨2, ![232, 384]⟩
abbrev S1x1x232x384 : Shape := ⟨4, ![1, 1, 232, 384]⟩
abbrev S1x384x384 : Shape := ⟨3, ![1, 384, 384]⟩
abbrev S384x384 : Shape := ⟨2, ![384, 384]⟩
abbrev S128x768 : Shape := ⟨2, ![128, 768]⟩
abbrev S128 : Shape := ⟨1, ![128]⟩
abbrev S16x128 : Shape := ⟨2, ![16, 128]⟩
abbrev S1x128 : Shape := ⟨2, ![1, 128]⟩
abbrev S16x1024 : Shape := ⟨2, ![16, 1024]⟩
abbrev S16 : Shape := ⟨1, ![16]⟩
abbrev S16x1 : Shape := ⟨2, ![16, 1]⟩
abbrev S16x768x1x1 : Shape := ⟨4, ![16, 768, 1, 1]⟩

abbrev nBuf : Space → Nat
  | .hbm => 168
  | .vmem => 27
  | .smem => 0
  | _ => 0

abbrev hbmTy0_0 (i : Nat) : BufTy := match i % 128 with
  | 0 => ⟨S16x3x224x224, .f32⟩
  | 1 => ⟨S96x3x3x3, .f32⟩
  | 2 => ⟨S96, .f32⟩
  | 3 => ⟨S192x96x3x3, .f32⟩
  | 4 => ⟨S192, .f32⟩
  | 5 => ⟨S384x192x3x3, .f32⟩
  | 6 => ⟨S384, .f32⟩
  | 7 => ⟨S768x384x3x3, .f32⟩
  | 8 => ⟨S768, .f32⟩
  | 9 => ⟨S1024x768, .f32⟩
  | 10 => ⟨S16x224x224x3, .f32⟩
  | 11 => ⟨S16x112x224x3, .f32⟩
  | 12 => ⟨S16x112x224x3, .f32⟩
  | 13 => ⟨S16x112x112x3, .f32⟩
  | 14 => ⟨S16x112x112x3, .f32⟩
  | 15 => ⟨S16x112x112x3, .f32⟩
  | 16 => ⟨S16x112x112x3, .f32⟩
  | 17 => ⟨S_, .i32⟩
  | 18 => ⟨S_, .f32⟩
  | 19 => ⟨S16x113x113x3, .f32⟩
  | 20 => ⟨S_, .i32⟩
  | 21 => ⟨S_, .f32⟩
  | 22 => ⟨S16x113x113x3, .f32⟩
  | 23 => ⟨S_, .i32⟩
  | 24 => ⟨S_, .f32⟩
  | 25 => ⟨S16x113x113x3, .f32⟩
  | 26 => ⟨S_, .i32⟩
  | 27 => ⟨S_, .f32⟩
  | 28 => ⟨S16x113x113x3, .f32⟩
  | 29 => ⟨S16x1x113x113x3, .f32⟩
  | 30 => ⟨S16x1x113x113x3, .f32⟩
  | 31 => ⟨S16x1x113x113x3, .f32⟩
  | 32 => ⟨S16x1x113x113x3, .f32⟩
  | 33 => ⟨S16x4x113x113x3, .f32⟩
  | 34 => ⟨S16x4x12769x3, .f32⟩
  | 35 => ⟨S_, .i32⟩
  | 36 => ⟨S_, .f32⟩
  | 37 => ⟨S16x4x12922x3, .f32⟩
  | 38 => ⟨S16x1x12800x3, .f32⟩
  | 39 => ⟨S16x12800x3, .f32⟩
  | 40 => ⟨S16x1x12800x3, .f32⟩
  | 41 => ⟨S16x12800x3, .f32⟩
  | 42 => ⟨S16x1x12800x3, .f32⟩
  | 43 => ⟨S16x12800x3, .f32⟩
  | 44 => ⟨S16x1x12800x3, .f32⟩
  | 45 => ⟨S16x12800x3, .f32⟩
  | 46 => ⟨S16x1x12800x3, .f32⟩
  | 47 => ⟨S16x12800x3, .f32⟩
  | 48 => ⟨S16x1x12800x3, .f32⟩
  | 49 => ⟨S16x12800x3, .f32⟩
  | 50 => ⟨S16x1x12800x3, .f32⟩
  | 51 => ⟨S16x12800x3, .f32⟩
  | 52 => ⟨S16x1x12800x3, .f32⟩
  | 53 => ⟨S16x12800x3, .f32⟩
  | 54 => ⟨S16x1x12800x3, .f32⟩
  | 55 => ⟨S16x12800x3, .f32⟩
  | 56 => ⟨S16x12800x27, .f32⟩
  | 57 => ⟨S3x3x3x96, .f32⟩
  | 58 => ⟨S27x96, .f32⟩
  | 59 => ⟨S1x96, .f32⟩
  | 60 => ⟨S16x12800x96, .f32⟩
  | 61 => ⟨S16x12656x96, .f32⟩
  | 62 => ⟨S16x112x113x96, .f32⟩
  | 63 => ⟨S16x112x112x96, .f32⟩
  | 64 => ⟨S16x56x112x96, .f32⟩
  | 65 => ⟨S16x56x112x96, .f32⟩
  | 66 => ⟨S16x56x56x96, .f32⟩
  | 67 => ⟨S16x56x56x96, .f32⟩
  | 68 => ⟨S16x56x56x96, .f32⟩
  | 69 => ⟨S16x56x56x96, .f32⟩
  | 70 => ⟨S_, .i32⟩
  | 71 => ⟨S_, .f32⟩
  | 72 => ⟨S16x57x57x96, .f32⟩
  | 73 => ⟨S_, .i32⟩
  | 74 => ⟨S_, .f32⟩
  | 75 => ⟨S16x57x57x96, .f32⟩
  | 76 => ⟨S_, .i32⟩
  | 77 => ⟨S_, .f32⟩
  | 78 => ⟨S16x57x57x96, .f32⟩
  | 79 => ⟨S_, .i32⟩
  | 80 => ⟨S_, .f32⟩
  | 81 => ⟨S16x57x57x96, .f32⟩
  | 82 => ⟨S16x1x57x57x96, .f32⟩
  | 83 => ⟨S16x1x57x57x96, .f32⟩
  | 84 => ⟨S16x1x57x57x96, .f32⟩
  | 85 => ⟨S16x1x57x57x96, .f32⟩
  | 86 => ⟨S16x4x57x57x96, .f32⟩
  | 87 => ⟨S16x4x3249x96, .f32⟩
  | 88 => ⟨S_, .i32⟩
  | 89 => ⟨S_, .f32⟩
  | 90 => ⟨S16x4x3320x96, .f32⟩
  | 91 => ⟨S3x3x96x192, .f32⟩
  | 92 => ⟨S9x96x192, .f32⟩
  | 93 => ⟨S1x192, .f32⟩
  | 94 => ⟨S16x3256x192, .f32⟩
  | 95 => ⟨S16x3192x192, .f32⟩
  | 96 => ⟨S16x56x57x192, .f32⟩
  | 97 => ⟨S16x56x56x192, .f32⟩
  | 98 => ⟨S16x28x56x192, .f32⟩
  | 99 => ⟨S16x28x56x192, .f32⟩
  | 100 => ⟨S16x28x28x192, .f32⟩
  | 101 => ⟨S16x28x28x192, .f32⟩
  | 102 => ⟨S16x28x28x192, .f32⟩
  | 103 => ⟨S16x28x28x192, .f32⟩
  | 104 => ⟨S_, .i32⟩
  | 105 => ⟨S_, .f32⟩
  | 106 => ⟨S16x29x29x192, .f32⟩
  | 107 => ⟨S_, .i32⟩
  | 108 => ⟨S_, .f32⟩
  | 109 => ⟨S16x29x29x192, .f32⟩
  | 110 => ⟨S_, .i32⟩
  | 111 => ⟨S_, .f32⟩
  | 112 => ⟨S16x29x29x192, .f32⟩
  | 113 => ⟨S_, .i32⟩
  | 114 => ⟨S_, .f32⟩
  | 115 => ⟨S16x29x29x192, .f32⟩
  | 116 => ⟨S16x1x29x29x192, .f32⟩
  | 117 => ⟨S16x1x29x29x192, .f32⟩
  | 118 => ⟨S16x1x29x29x192, .f32⟩
  | 119 => ⟨S16x1x29x29x192, .f32⟩
  | 120 => ⟨S16x4x29x29x192, .f32⟩
  | 121 => ⟨S16x4x841x192, .f32⟩
  | 122 => ⟨S_, .i32⟩
  | 123 => ⟨S_, .f32⟩
  | 124 => ⟨S16x4x880x192, .f32⟩
  | 125 => ⟨S3x3x192x384, .f32⟩
  | 126 => ⟨S9x192x384, .f32⟩
  | 127 => ⟨S1x384, .f32⟩
  | _ => ⟨S16x3x224x224, .f32⟩

abbrev hbmTy0_1 (i : Nat) : BufTy := match i % 128 with
  | 0 => ⟨S16x816x384, .f32⟩
  | 1 => ⟨S16x812x384, .f32⟩
  | 2 => ⟨S16x28x29x384, .f32⟩
  | 3 => ⟨S16x28x28x384, .f32⟩
  | 4 => ⟨S16x14x28x384, .f32⟩
  | 5 => ⟨S16x14x28x384, .f32⟩
  | 6 => ⟨S16x14x14x384, .f32⟩
  | 7 => ⟨S16x14x14x384, .f32⟩
  | 8 => ⟨S16x14x14x384, .f32⟩
  | 9 => ⟨S16x14x14x384, .f32⟩
  | 10 => ⟨S_, .i32⟩
  | 11 => ⟨S_, .f32⟩
  | 12 => ⟨S16x15x15x384, .f32⟩
  | 13 => ⟨S_, .i32⟩
  | 14 => ⟨S_, .f32⟩
  | 15 => ⟨S16x15x15x384, .f32⟩
  | 16 => ⟨S_, .i32⟩
  | 17 => ⟨S_, .f32⟩
  | 18 => ⟨S16x15x15x384, .f32⟩
  | 19 => ⟨S_, .i32⟩
  | 20 => ⟨S_, .f32⟩
  | 21 => ⟨S16x15x15x384, .f32⟩
  | 22 => ⟨S16x1x15x15x384, .f32⟩
  | 23 => ⟨S16x1x15x15x384, .f32⟩
  | 24 => ⟨S16x1x15x15x384, .f32⟩
  | 25 => ⟨S16x1x15x15x384, .f32⟩
  | 26 => ⟨S16x4x15x15x384, .f32⟩
  | 27 => ⟨S16x4x225x384, .f32⟩
  | 28 => ⟨S_, .i32⟩
  | 29 => ⟨S_, .f32⟩
  | 30 => ⟨S16x4x248x384, .f32⟩
  | 31 => ⟨S2x8x4x248x384, .f32⟩
  | 32 => ⟨S2x4x8x248x384, .f32⟩
  | 33 => ⟨S2x4x1984x384, .f32⟩
  | 34 => ⟨S3x3x384x768, .f32⟩
  | 35 => ⟨S9x384x768, .f32⟩
  | 36 => ⟨S1x768, .f32⟩
  | 37 => ⟨S16x768, .f32⟩
  | 38 => ⟨S16x768, .f32⟩
  | 39 => ⟨S16x768x1x1, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev bufTy : (tb : Table) → Fin (tcTables nBuf tb) → BufTy
  | .hbm, ⟨i, _⟩ => hbmTy i
  | .local _ .vmem, ⟨0, _⟩ => ⟨S1x640x27, .f32⟩
  | .local _ .vmem, ⟨1, _⟩ => ⟨S1x640x27, .f32⟩
  | .local _ .vmem, ⟨2, _⟩ => ⟨S27x96, .f32⟩
  | .local _ .vmem, ⟨3, _⟩ => ⟨S1x96, .f32⟩
  | .local _ .vmem, ⟨4, _⟩ => ⟨S1x640x96, .f32⟩
  | .local _ .vmem, ⟨5, _⟩ => ⟨S1x640x96, .f32⟩
  | .local _ .vmem, ⟨6, _⟩ => ⟨S1x4x3320x96, .f32⟩
  | .local _ .vmem, ⟨7, _⟩ => ⟨S1x4x3320x96, .f32⟩
  | .local _ .vmem, ⟨8, _⟩ => ⟨S9x96x192, .f32⟩
  | .local _ .vmem, ⟨9, _⟩ => ⟨S1x192, .f32⟩
  | .local _ .vmem, ⟨10, _⟩ => ⟨S1x296x192, .f32⟩
  | .local _ .vmem, ⟨11, _⟩ => ⟨S1x296x192, .f32⟩
  | .local _ .vmem, ⟨12, _⟩ => ⟨S1x4x880x192, .f32⟩
  | .local _ .vmem, ⟨13, _⟩ => ⟨S1x4x880x192, .f32⟩
  | .local _ .vmem, ⟨14, _⟩ => ⟨S9x192x384, .f32⟩
  | .local _ .vmem, ⟨15, _⟩ => ⟨S1x384, .f32⟩
  | .local _ .vmem, ⟨16, _⟩ => ⟨S1x136x384, .f32⟩
  | .local _ .vmem, ⟨17, _⟩ => ⟨S1x136x384, .f32⟩
  | .local _ .vmem, ⟨18, _⟩ => ⟨S1x4x1984x384, .f32⟩
  | .local _ .vmem, ⟨19, _⟩ => ⟨S1x4x1984x384, .f32⟩
  | .local _ .vmem, ⟨20, _⟩ => ⟨S9x384x768, .f32⟩
  | .local _ .vmem, ⟨21, _⟩ => ⟨S1x768, .f32⟩
  | .local _ .vmem, ⟨22, _⟩ => ⟨S8x768, .f32⟩
  | .local _ .vmem, ⟨23, _⟩ => ⟨S8x768, .f32⟩
  | .local _ .vmem, ⟨24, _⟩ => ⟨S16x768, .f32⟩
  | .local _ .vmem, ⟨25, _⟩ => ⟨S1024x768, .f32⟩
  | .local _ .vmem, ⟨26, _⟩ => ⟨S16x768, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_c_1 : Ref sig .tc := ⟨.hbm, 23, rfl⟩
abbrev main_call2_v0 : Ref sig .tc := ⟨.hbm, 24, rfl⟩
abbrev main_v9 : Ref sig .tc := ⟨.hbm, 25, rfl⟩
abbrev main_c_2 : Ref sig .tc := ⟨.hbm, 26, rfl⟩
abbrev main_call3_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_call4_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_4 : Ref sig .tc := ⟨.hbm, 70, rfl⟩
abbrev main_call5_v0 : Ref sig .tc := ⟨.hbm, 71, rfl⟩
abbrev main_v50 : Ref sig .tc := ⟨.hbm, 72, rfl⟩
abbrev main_c_5 : Ref sig .tc := ⟨.hbm, 73, rfl⟩
abbrev main_call6_v0 : Ref sig .tc := ⟨.hbm, 74, rfl⟩
abbrev main_v51 : Ref sig .tc := ⟨.hbm, 75, rfl⟩
abbrev main_c_6 : Ref sig .tc := ⟨.hbm, 76, rfl⟩
abbrev main_call7_v0 : Ref sig .tc := ⟨.hbm, 77, rfl⟩
abbrev main_v52 : Ref sig .tc := ⟨.hbm, 78, rfl⟩
abbrev main_c_7 : Ref sig .tc := ⟨.hbm, 79, rfl⟩
abbrev main_call8_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_8 : Ref sig .tc := ⟨.hbm, 88, rfl⟩
abbrev main_call9_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_9 : Ref sig .tc := ⟨.hbm, 104, rfl⟩
abbrev main_call10_v0 : Ref sig .tc := ⟨.hbm, 105, rfl⟩
abbrev main_v74 : Ref sig .tc := ⟨.hbm, 106, rfl⟩
abbrev main_c_10 : Ref sig .tc := ⟨.hbm, 107, rfl⟩
abbrev main_call11_v0 : Ref sig .tc := ⟨.hbm, 108, rfl⟩
abbrev main_v75 : Ref sig .tc := ⟨.hbm, 109, rfl⟩
abbrev main_c_11 : Ref sig .tc := ⟨.hbm, 110, rfl⟩
abbrev main_call12_v0 : Ref sig .tc := ⟨.hbm, 111, rfl⟩
abbrev main_v76 : Ref sig .tc := ⟨.hbm, 112, rfl⟩
abbrev main_c_12 : Ref sig .tc := ⟨.hbm, 113, rfl⟩
abbrev main_call13_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_13 : Ref sig .tc := ⟨.hbm, 122, rfl⟩
abbrev main_call14_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_14 : Ref sig .tc := ⟨.hbm, 138, rfl⟩
abbrev main_call15_v0 : Ref sig .tc := ⟨.hbm, 139, rfl⟩
abbrev main_v98 : Ref sig .tc := ⟨.hbm, 140, rfl⟩
abbrev main_c_15 : Ref sig .tc := ⟨.hbm, 141, rfl⟩
abbrev main_call16_v0 : Ref sig .tc := ⟨.hbm, 142, rfl⟩
abbrev main_v99 : Ref sig .tc := ⟨.hbm, 143, rfl⟩
abbrev main_c_16 : Ref sig .tc := ⟨.hbm, 144, rfl⟩
abbrev main_call17_v0 : Ref sig .tc := ⟨.hbm, 145, rfl⟩
abbrev main_v100 : Ref sig .tc := ⟨.hbm, 146, rfl⟩
abbrev main_c_17 : Ref sig .tc := ⟨.hbm, 147, rfl⟩
abbrev main_call18_v0 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_c_18 : Ref sig .tc := ⟨.hbm, 156, rfl⟩
abbrev main_call19_v0 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26

abbrev nD : Nat := 1
abbrev τ : Topo := Topo.v7x

variable {F : FTy → Type} [FloatOps F]

abbrev grid0 : Pipeline.Grid := ⟨2, ![16, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x27 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S27x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x640x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 11], ![false, false]⟩

def k1_off1 (i : grid1.Coords) : Fin 4 → Nat :=
  let c0 : Index := 0#32
  let c0_0 : Index := 0#32
  let arg1 : BitVec 32 := BitVec.ofNat 32 (i 1).val
  let c296_i32 : BitVec 32 := 296#32
  let v0 : BitVec 32 := Scalar.muli arg1 c296_i32
  let v1 : Index := Scalar.indexCast v0
  let c0_1 : Index := 0#32
  ![0, 0, v1.toNat, 0]
def k1_off2 (i : grid1.Coords) : Fin 4 → Nat :=
  let c0_2 : Index := 0#32
  let c1 : Index := 1#32
  let arg1 : BitVec 32 := BitVec.ofNat 32 (i 1).val
  let c296_i32 : BitVec 32 := 296#32
  let v0 : BitVec 32 := Scalar.muli arg1 c296_i32
  let v4 : Index := Scalar.indexCast v0
  let c0_3 : Index := 0#32
  ![0, 1, v4.toNat, 0]
def k1_off3 (i : grid1.Coords) : Fin 4 → Nat :=
  let c0_4 : Index := 0#32
  let c2 : Index := 2#32
  let arg1 : BitVec 32 := BitVec.ofNat 32 (i 1).val
  let c296_i32 : BitVec 32 := 296#32
  let v0 : BitVec 32 := Scalar.muli arg1 c296_i32
  let v7 : Index := Scalar.indexCast v0
  let c0_5 : Index := 0#32
  ![0, 2, v7.toNat, 0]
def k1_off4 (i : grid1.Coords) : Fin 4 → Nat :=
  let c0_6 : Index := 0#32
  let c3 : Index := 3#32
  let arg1 : BitVec 32 := BitVec.ofNat 32 (i 1).val
  let c296_i32 : BitVec 32 := 296#32
  let v0 : BitVec 32 := Scalar.muli arg1 c296_i32
  let v10 : Index := Scalar.indexCast v0
  let c0_7 : Index := 0#32
  ![0, 3, v10.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4x3320x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S9x96x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x296x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 6], ![false, false]⟩

def k2_off1 (i : grid2.Coords) : Fin 4 → Nat :=
  let c0 : Index := 0#32
  let c0_0 : Index := 0#32
  let arg1 : BitVec 32 := BitVec.ofNat 32 (i 1).val
  let c136_i32 : BitVec 32 := 136#32
  let v0 : BitVec 32 := Scalar.muli arg1 c136_i32
  let v1 : Index := Scalar.indexCast v0
  let c0_1 : Index := 0#32
  ![0, 0, v1.toNat, 0]
def k2_off2 (i : grid2.Coords) : Fin 4 → Nat :=
  let c0_2 : Index := 0#32
  let c1 : Index := 1#32
  let arg1 : BitVec 32 := BitVec.ofNat 32 (i 1).val
  let c136_i32 : BitVec 32 := 136#32
  let v0 : BitVec 32 := Scalar.muli arg1 c136_i32
  let v4 : Index := Scalar.indexCast v0
  let c0_3 : Index := 0#32
  ![0, 1, v4.toNat, 0]
def k2_off3 (i : grid2.Coords) : Fin 4 → Nat :=
  let c0_4 : Index := 0#32
  let c2 : Index := 2#32
  let arg1 : BitVec 32 := BitVec.ofNat 32 (i 1).val
  let c136_i32 : BitVec 32 := 136#32
  let v0 : BitVec 32 := Scalar.muli arg1 c136_i32
  let v7 : Index := Scalar.indexCast v0
  let c0_5 : Index := 0#32
  ![0, 2, v7.toNat, 0]
def k2_off4 (i : grid2.Coords) : Fin 4 → Nat :=
  let c0_6 : Index := 0#32
  let c3 : Index := 3#32
  let arg1 : BitVec 32 := BitVec.ofNat 32 (i 1).val
  let c136_i32 : BitVec 32 := 136#32
  let v0 : BitVec 32 := Scalar.muli arg1 c136_i32
  let v10 : Index := Scalar.indexCast v0
  let c0_7 : Index := 0#32
  ![0, 3, v10.toNat, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x4x880x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S9x192x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x136x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![2], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x4x1984x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x384x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S16x768 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1024x768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S16x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
-- ==== KernelIdeal.lean ====
variable {F : FTy → Type} [FloatOps F] [Named F]
def κ : String → Option EReal := fun
  | "inv196" => some ((1 / 196 : ℝ) : EReal)
  | _ => none
-- ==== ReferenceIdeal.lean ====
abbrev S16x3x224x224 : Shape := ⟨4, ![16, 3, 224, 224]⟩
abbrev S96x3x3x3 : Shape := ⟨4, ![96, 3, 3, 3]⟩
abbrev S96 : Shape := ⟨1, ![96]⟩
abbrev S192x96x3x3 : Shape := ⟨4, ![192, 96, 3, 3]⟩
abbrev S192 : Shape := ⟨1, ![192]⟩
abbrev S384x192x3x3 : Shape := ⟨4, ![384, 192, 3, 3]⟩
abbrev S384 : Shape := ⟨1, ![384]⟩
abbrev S768x384x3x3 : Shape := ⟨4, ![768, 384, 3, 3]⟩
abbrev S768 : Shape := ⟨1, ![768]⟩
abbrev S1024x768 : Shape := ⟨2, ![1024, 768]⟩
abbrev S_ : Shape := ⟨0, ![]⟩
abbrev S16x3x225x225 : Shape := ⟨4, ![16, 3, 225, 225]⟩
abbrev S16x96x112x112 : Shape := ⟨4, ![16, 96, 112, 112]⟩
abbrev S16x3x112x112 : Shape := ⟨4, ![16, 3, 112, 112]⟩
abbrev S96x3x1x1 : Shape := ⟨4, ![96, 3, 1, 1]⟩
abbrev S96x3 : Shape := ⟨2, ![96, 3]⟩
abbrev S96x16x112x112 : Shape := ⟨4, ![96, 16, 112, 112]⟩
abbrev S1x96x1x1 : Shape := ⟨4, ![1, 96, 1, 1]⟩
abbrev S16x96x113x113 : Shape := ⟨4, ![16, 96, 113, 113]⟩
abbrev S16x192x56x56 : Shape := ⟨4, ![16, 192, 56, 56]⟩
abbrev S16x96x56x56 : Shape := ⟨4, ![16, 96, 56, 56]⟩
abbrev S192x96x1x1 : Shape := ⟨4, ![192, 96, 1, 1]⟩
abbrev S192x96 : Shape := ⟨2, ![192, 96]⟩
abbrev S192x16x56x56 : Shape := ⟨4, ![192, 16, 56, 56]⟩
abbrev S1x192x1x1 : Shape := ⟨4, ![1, 192, 1, 1]⟩
abbrev S16x192x57x57 : Shape := ⟨4, ![16, 192, 57, 57]⟩
abbrev S16x384x28x28 : Shape := ⟨4, ![16, 384, 28, 28]⟩
abbrev S16x192x28x28 : Shape := ⟨4, ![16, 192, 28, 28]⟩
abbrev S384x192x1x1 : Shape := ⟨4, ![384, 192, 1, 1]⟩
abbrev S384x192 : Shape := ⟨2, ![384, 192]⟩
abbrev S384x16x28x28 : Shape := ⟨4, ![384, 16, 28, 28]⟩
abbrev S1x384x1x1 : Shape := ⟨4, ![1, 384, 1, 1]⟩
abbrev S16x384x29x29 : Shape := ⟨4, ![16, 384, 29, 29]⟩
abbrev S16x768x14x14 : Shape := ⟨4, ![16, 768, 14, 14]⟩
abbrev S16x384x14x14 : Shape := ⟨4, ![16, 384, 14, 14]⟩
abbrev S768x384x1x1 : Shape := ⟨4, ![768, 384, 1, 1]⟩
abbrev S768x384 : Shape := ⟨2, ![768, 384]⟩
abbrev S768x16x14x14 : Shape := ⟨4, ![768, 16, 14, 14]⟩
abbrev S1x768x1x1 : Shape := ⟨4, ![1, 768, 1, 1]⟩
abbrev S16x768 : Shape := ⟨2, ![16, 768]⟩
abbrev S16x768x1x1 : Shape := ⟨4, ![16, 768, 1, 1]⟩
abbrev S16 : Shape := ⟨1, ![16]⟩
abbrev S16x1 : Shape := ⟨2, ![16, 1]⟩
abbrev S768x1024 : Shape := ⟨2, ![768, 1024]⟩
abbrev S16x1024 : Shape := ⟨2, ![16, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 325
  | .vmem => 0
  | .smem => 0
  | _ => 0

abbrev hbmTy0_0 (i : Nat) : BufTy := match i % 128 with
  | 0 => ⟨S16x3x224x224, .f32⟩
  | 1 => ⟨S96x3x3x3, .f32⟩
  | 2 => ⟨S96, .f32⟩
  | 3 => ⟨S192x96x3x3, .f32⟩
  | 4 => ⟨S192, .f32⟩
  | 5 => ⟨S384x192x3x3, .f32⟩
  | 6 => ⟨S384, .f32⟩
  | 7 => ⟨S768x384x3x3, .f32⟩
  | 8 => ⟨S768, .f32⟩
  | 9 => ⟨S1024x768, .f32⟩
  | 10 => ⟨S_, .i32⟩
  | 11 => ⟨S_, .f32⟩
  | 12 => ⟨S16x3x225x225, .f32⟩
  | 13 => ⟨S_, .f32⟩
  | 14 => ⟨S16x96x112x112, .f32⟩
  | 15 => ⟨S16x3x112x112, .f32⟩
  | 16 => ⟨S96x3x1x1, .f32⟩
  | 17 => ⟨S96x3, .f32⟩
  | 18 => ⟨S96x16x112x112, .f32⟩
  | 19 => ⟨S16x96x112x112, .f32⟩
  | 20 => ⟨S16x96x112x112, .f32⟩
  | 21 => ⟨S16x3x112x112, .f32⟩
  | 22 => ⟨S96x3x1x1, .f32⟩
  | 23 => ⟨S96x3, .f32⟩
  | 24 => ⟨S96x16x112x112, .f32⟩
  | 25 => ⟨S16x96x112x112, .f32⟩
  | 26 => ⟨S16x96x112x112, .f32⟩
  | 27 => ⟨S16x3x112x112, .f32⟩
  | 28 => ⟨S96x3x1x1, .f32⟩
  | 29 => ⟨S96x3, .f32⟩
  | 30 => ⟨S96x16x112x112, .f32⟩
  | 31 => ⟨S16x96x112x112, .f32⟩
  | 32 => ⟨S16x96x112x112, .f32⟩
  | 33 => ⟨S16x3x112x112, .f32⟩
  | 34 => ⟨S96x3x1x1, .f32⟩
  | 35 => ⟨S96x3, .f32⟩
  | 36 => ⟨S96x16x112x112, .f32⟩
  | 37 => ⟨S16x96x112x112, .f32⟩
  | 38 => ⟨S16x96x112x112, .f32⟩
  | 39 => ⟨S16x3x112x112, .f32⟩
  | 40 => ⟨S96x3x1x1, .f32⟩
  | 41 => ⟨S96x3, .f32⟩
  | 42 => ⟨S96x16x112x112, .f32⟩
  | 43 => ⟨S16x96x112x112, .f32⟩
  | 44 => ⟨S16x96x112x112, .f32⟩
  | 45 => ⟨S16x3x112x112, .f32⟩
  | 46 => ⟨S96x3x1x1, .f32⟩
  | 47 => ⟨S96x3, .f32⟩
  | 48 => ⟨S96x16x112x112, .f32⟩
  | 49 => ⟨S16x96x112x112, .f32⟩
  | 50 => ⟨S16x96x112x112, .f32⟩
  | 51 => ⟨S16x3x112x112, .f32⟩
  | 52 => ⟨S96x3x1x1, .f32⟩
  | 53 => ⟨S96x3, .f32⟩
  | 54 => ⟨S96x16x112x112, .f32⟩
  | 55 => ⟨S16x96x112x112, .f32⟩
  | 56 => ⟨S16x96x112x112, .f32⟩
  | 57 => ⟨S16x3x112x112, .f32⟩
  | 58 => ⟨S96x3x1x1, .f32⟩
  | 59 => ⟨S96x3, .f32⟩
  | 60 => ⟨S96x16x112x112, .f32⟩
  | 61 => ⟨S16x96x112x112, .f32⟩
  | 62 => ⟨S16x96x112x112, .f32⟩
  | 63 => ⟨S16x3x112x112, .f32⟩
  | 64 => ⟨S96x3x1x1, .f32⟩
  | 65 => ⟨S96x3, .f32⟩
  | 66 => ⟨S96x16x112x112, .f32⟩
  | 67 => ⟨S16x96x112x112, .f32⟩
  | 68 => ⟨S16x96x112x112, .f32⟩
  | 69 => ⟨S1x96x1x1, .f32⟩
  | 70 => ⟨S16x96x112x112, .f32⟩
  | 71 => ⟨S16x96x112x112, .f32⟩
  | 72 => ⟨S_, .f32⟩
  | 73 => ⟨S16x96x112x112, .f32⟩
  | 74 => ⟨S16x96x112x112, .f32⟩
  | 75 => ⟨S_, .i32⟩
  | 76 => ⟨S_, .f32⟩
  | 77 => ⟨S16x96x113x113, .f32⟩
  | 78 => ⟨S_, .f32⟩
  | 79 => ⟨S16x192x56x56, .f32⟩
  | 80 => ⟨S16x96x56x56, .f32⟩
  | 81 => ⟨S192x96x1x1, .f32⟩
  | 82 => ⟨S192x96, .f32⟩
  | 83 => ⟨S192x16x56x56, .f32⟩
  | 84 => ⟨S16x192x56x56, .f32⟩
  | 85 => ⟨S16x192x56x56, .f32⟩
  | 86 => ⟨S16x96x56x56, .f32⟩
  | 87 => ⟨S192x96x1x1, .f32⟩
  | 88 => ⟨S192x96, .f32⟩
  | 89 => ⟨S192x16x56x56, .f32⟩
  | 90 => ⟨S16x192x56x56, .f32⟩
  | 91 => ⟨S16x192x56x56, .f32⟩
  | 92 => ⟨S16x96x56x56, .f32⟩
  | 93 => ⟨S192x96x1x1, .f32⟩
  | 94 => ⟨S192x96, .f32⟩
  | 95 => ⟨S192x16x56x56, .f32⟩
  | 96 => ⟨S16x192x56x56, .f32⟩
  | 97 => ⟨S16x192x56x56, .f32⟩
  | 98 => ⟨S16x96x56x56, .f32⟩
  | 99 => ⟨S192x96x1x1, .f32⟩
  | 100 => ⟨S192x96, .f32⟩
  | 101 => ⟨S192x16x56x56, .f32⟩
  | 102 => ⟨S16x192x56x56, .f32⟩
  | 103 => ⟨S16x192x56x56, .f32⟩
  | 104 => ⟨S16x96x56x56, .f32⟩
  | 105 => ⟨S192x96x1x1, .f32⟩
  | 106 => ⟨S192x96, .f32⟩
  | 107 => ⟨S192x16x56x56, .f32⟩
  | 108 => ⟨S16x192x56x56, .f32⟩
  | 109 => ⟨S16x192x56x56, .f32⟩
  | 110 => ⟨S16x96x56x56, .f32⟩
  | 111 => ⟨S192x96x1x1, .f32⟩
  | 112 => ⟨S192x96, .f32⟩
  | 113 => ⟨S192x16x56x56, .f32⟩
  | 114 => ⟨S16x192x56x56, .f32⟩
  | 115 => ⟨S16x192x56x56, .f32⟩
  | 116 => ⟨S16x96x56x56, .f32⟩
  | 117 => ⟨S192x96x1x1, .f32⟩
  | 118 => ⟨S192x96, .f32⟩
  | 119 => ⟨S192x16x56x56, .f32⟩
  | 120 => ⟨S16x192x56x56, .f32⟩
  | 121 => ⟨S16x192x56x56, .f32⟩
  | 122 => ⟨S16x96x56x56, .f32⟩
  | 123 => ⟨S192x96x1x1, .f32⟩
  | 124 => ⟨S192x96, .f32⟩
  | 125 => ⟨S192x16x56x56, .f32⟩
  | 126 => ⟨S16x192x56x56, .f32⟩
  | 127 => ⟨S16x192x56x56, .f32⟩
  | _ => ⟨S16x3x224x224, .f32⟩

abbrev hbmTy0_1 (i : Nat) : BufTy := match i % 128 with
  | 0 => ⟨S16x96x56x56, .f32⟩
  | 1 => ⟨S192x96x1x1, .f32⟩
  | 2 => ⟨S192x96, .f32⟩
  | 3 => ⟨S192x16x56x56, .f32⟩
  | 4 => ⟨S16x192x56x56, .f32⟩
  | 5 => ⟨S16x192x56x56, .f32⟩
  | 6 => ⟨S1x192x1x1, .f32⟩
  | 7 => ⟨S16x192x56x56, .f32⟩
  | 8 => ⟨S16x192x56x56, .f32⟩
  | 9 => ⟨S_, .f32⟩
  | 10 => ⟨S16x192x56x56, .f32⟩
  | 11 => ⟨S16x192x56x56, .f32⟩
  | 12 => ⟨S_, .i32⟩
  | 13 => ⟨S_, .f32⟩
  | 14 => ⟨S16x192x57x57, .f32⟩
  | 15 => ⟨S_, .f32⟩
  | 16 => ⟨S16x384x28x28, .f32⟩
  | 17 => ⟨S16x192x28x28, .f32⟩
  | 18 => ⟨S384x192x1x1, .f32⟩
  | 19 => ⟨S384x192, .f32⟩
  | 20 => ⟨S384x16x28x28, .f32⟩
  | 21 => ⟨S16x384x28x28, .f32⟩
  | 22 => ⟨S16x384x28x28, .f32⟩
  | 23 => ⟨S16x192x28x28, .f32⟩
  | 24 => ⟨S384x192x1x1, .f32⟩
  | 25 => ⟨S384x192, .f32⟩
  | 26 => ⟨S384x16x28x28, .f32⟩
  | 27 => ⟨S16x384x28x28, .f32⟩
  | 28 => ⟨S16x384x28x28, .f32⟩
  | 29 => ⟨S16x192x28x28, .f32⟩
  | 30 => ⟨S384x192x1x1, .f32⟩
  | 31 => ⟨S384x192, .f32⟩
  | 32 => ⟨S384x16x28x28, .f32⟩
  | 33 => ⟨S16x384x28x28, .f32⟩
  | 34 => ⟨S16x384x28x28, .f32⟩
  | 35 => ⟨S16x192x28x28, .f32⟩
  | 36 => ⟨S384x192x1x1, .f32⟩
  | 37 => ⟨S384x192, .f32⟩
  | 38 => ⟨S384x16x28x28, .f32⟩
  | 39 => ⟨S16x384x28x28, .f32⟩
  | 40 => ⟨S16x384x28x28, .f32⟩
  | 41 => ⟨S16x192x28x28, .f32⟩
  | 42 => ⟨S384x192x1x1, .f32⟩
  | 43 => ⟨S384x192, .f32⟩
  | 44 => ⟨S384x16x28x28, .f32⟩
  | 45 => ⟨S16x384x28x28, .f32⟩
  | 46 => ⟨S16x384x28x28, .f32⟩
  | 47 => ⟨S16x192x28x28, .f32⟩
  | 48 => ⟨S384x192x1x1, .f32⟩
  | 49 => ⟨S384x192, .f32⟩
  | 50 => ⟨S384x16x28x28, .f32⟩
  | 51 => ⟨S16x384x28x28, .f32⟩
  | 52 => ⟨S16x384x28x28, .f32⟩
  | 53 => ⟨S16x192x28x28, .f32⟩
  | 54 => ⟨S384x192x1x1, .f32⟩
  | 55 => ⟨S384x192, .f32⟩
  | 56 => ⟨S384x16x28x28, .f32⟩
  | 57 => ⟨S16x384x28x28, .f32⟩
  | 58 => ⟨S16x384x28x28, .f32⟩
  | 59 => ⟨S16x192x28x28, .f32⟩
  | 60 => ⟨S384x192x1x1, .f32⟩
  | 61 => ⟨S384x192, .f32⟩
  | 62 => ⟨S384x16x28x28, .f32⟩
  | 63 => ⟨S16x384x28x28, .f32⟩
  | 64 => ⟨S16x384x28x28, .f32⟩
  | 65 => ⟨S16x192x28x28, .f32⟩
  | 66 => ⟨S384x192x1x1, .f32⟩
  | 67 => ⟨S384x192, .f32⟩
  | 68 => ⟨S384x16x28x28, .f32⟩
  | 69 => ⟨S16x384x28x28, .f32⟩
  | 70 => ⟨S16x384x28x28, .f32⟩
  | 71 => ⟨S1x384x1x1, .f32⟩
  | 72 => ⟨S16x384x28x28, .f32⟩
  | 73 => ⟨S16x384x28x28, .f32⟩
  | 74 => ⟨S_, .f32⟩
  | 75 => ⟨S16x384x28x28, .f32⟩
  | 76 => ⟨S16x384x28x28, .f32⟩
  | 77 => ⟨S_, .i32⟩
  | 78 => ⟨S_, .f32⟩
  | 79 => ⟨S16x384x29x29, .f32⟩
  | 80 => ⟨S_, .f32⟩
  | 81 => ⟨S16x768x14x14, .f32⟩
  | 82 => ⟨S16x384x14x14, .f32⟩
  | 83 => ⟨S768x384x1x1, .f32⟩
  | 84 => ⟨S768x384, .f32⟩
  | 85 => ⟨S768x16x14x14, .f32⟩
  | 86 => ⟨S16x768x14x14, .f32⟩
  | 87 => ⟨S16x768x14x14, .f32⟩
  | 88 => ⟨S16x384x14x14, .f32⟩
  | 89 => ⟨S768x384x1x1, .f32⟩
  | 90 => ⟨S768x384, .f32⟩
  | 91 => ⟨S768x16x14x14, .f32⟩
  | 92 => ⟨S16x768x14x14, .f32⟩
  | 93 => ⟨S16x768x14x14, .f32⟩
  | 94 => ⟨S16x384x14x14, .f32⟩
  | 95 => ⟨S768x384x1x1, .f32⟩
  | 96 => ⟨S768x384, .f32⟩
  | 97 => ⟨S768x16x14x14, .f32⟩
  | 98 => ⟨S16x768x14x14, .f32⟩
  | 99 => ⟨S16x768x14x14, .f32⟩
  | 100 => ⟨S16x384x14x14, .f32⟩
  | 101 => ⟨S768x384x1x1, .f32⟩
  | 102 => ⟨S768x384, .f32⟩
  | 103 => ⟨S768x16x14x14, .f32⟩
  | 104 => ⟨S16x768x14x14, .f32⟩
  | 105 => ⟨S16x768x14x14, .f32⟩
  | 106 => ⟨S16x384x14x14, .f32⟩
  | 107 => ⟨S768x384x1x1, .f32⟩
  | 108 => ⟨S768x384, .f32⟩
  | 109 => ⟨S768x16x14x14, .f32⟩
  | 110 => ⟨S16x768x14x14, .f32⟩
  | 111 => ⟨S16x768x14x14, .f32⟩
  | 112 => ⟨S16x384x14x14, .f32⟩
  | 113 => ⟨S768x384x1x1, .f32⟩
  | 114 => ⟨S768x384, .f32⟩
  | 115 => ⟨S768x16x14x14, .f32⟩
  | 116 => ⟨S16x768x14x14, .f32⟩
  | 117 => ⟨S16x768x14x14, .f32⟩
  | 118 => ⟨S16x384x14x14, .f32⟩
  | 119 => ⟨S768x384x1x1, .f32⟩
  | 120 => ⟨S768x384, .f32⟩
  | 121 => ⟨S768x16x14x14, .f32⟩
  | 122 => ⟨S16x768x14x14, .f32⟩
  | 123 => ⟨S16x768x14x14, .f32⟩
  | 124 => ⟨S16x384x14x14, .f32⟩
  | 125 => ⟨S768x384x1x1, .f32⟩
  | 126 => ⟨S768x384, .f32⟩
  | 127 => ⟨S768x16x14x14, .f32⟩
  | _ => ⟨S16x3x224x224, .f32⟩

abbrev hbmTy0_2 (i : Nat) : BufTy := match i % 128 with
  | 0 => ⟨S16x768x14x14, .f32⟩
  | 1 => ⟨S16x768x14x14, .f32⟩
  | 2 => ⟨S16x384x14x14, .f32⟩
  | 3 => ⟨S768x384x1x1, .f32⟩
  | 4 => ⟨S768x384, .f32⟩
  | 5 => ⟨S768x16x14x14, .f32⟩
  | 6 => ⟨S16x768x14x14, .f32⟩
  | 7 => ⟨S16x768x14x14, .f32⟩
  | 8 => ⟨S1x768x1x1, .f32⟩
  | 9 => ⟨S16x768x14x14, .f32⟩
  | 10 => ⟨S16x768x14x14, .f32⟩
  | 11 => ⟨S_, .f32⟩
  | 12 => ⟨S16x768x14x14, .f32⟩
  | 13 => ⟨S16x768x14x14, .f32⟩
  | 14 => ⟨S_, .f32⟩
  | 15 => ⟨S16x768, .f32⟩
  | 16 => ⟨S16x768x1x1, .f32⟩
  | 17 => ⟨S_, .f32⟩
  | 18 => ⟨S16x768x1x1, .f32⟩
  | 19 => ⟨S16x768x1x1, .f32⟩
  | 20 => ⟨S16x768, .f32⟩
  | 21 => ⟨S16x768, .f32⟩
  | 22 => ⟨S_, .f32⟩
  | 23 => ⟨S16, .f32⟩
  | 24 => ⟨S16x1, .f32⟩
  | 25 => ⟨S_, .f32⟩
  | 26 => ⟨S16x768, .f32⟩
  | 27 => ⟨S16x768, .f32⟩
  | 28 => ⟨S768x1024, .f32⟩
  | 29 => ⟨S16x1024, .f32⟩
  | 30 => ⟨S16x1024, .f32⟩
  | 31 => ⟨S16x1024, .f32⟩
  | 32 => ⟨S1024x768, .f32⟩
  | 33 => ⟨S_, .f32⟩
  | 34 => ⟨S1024, .f32⟩
  | 35 => ⟨S1x1024, .f32⟩
  | 36 => ⟨S16x1024, .f32⟩
  | 37 => ⟨S16x1024, .f32⟩
  | 38 => ⟨S16x1024, .i32⟩
  | 39 => ⟨S_, .f32⟩
  | 40 => ⟨S_, .i32⟩
  | 41 => ⟨S16, .f32⟩
  | 42 => ⟨S16, .i32⟩
  | 43 => ⟨S_, .i32⟩
  | 44 => ⟨S16, .i32⟩
  | 45 => ⟨S16, .i1⟩
  | 46 => ⟨S_, .i32⟩
  | 47 => ⟨S16, .i32⟩
  | 48 => ⟨S16, .i32⟩
  | 49 => ⟨S16, .i32⟩
  | 50 => ⟨S16x1, .i32⟩
  | 51 => ⟨S1, .i32⟩
  | 52 => ⟨S_, .i32⟩
  | 53 => ⟨S16x1, .i32⟩
  | 54 => ⟨S16x1, .i1⟩
  | 55 => ⟨S1x1, .i32⟩
  | 56 => ⟨S16x1, .i32⟩
  | 57 => ⟨S16x1, .i1⟩
  | 58 => ⟨S16x1, .i1⟩
  | 59 => ⟨S_, .i1⟩
  | 60 => ⟨S16, .i1⟩
  | 61 => ⟨S16x768, .f32⟩
  | 62 => ⟨S16x768, .i1⟩
  | 63 => ⟨S_, .f32⟩
  | 64 => ⟨S16x768, .f32⟩
  | 65 => ⟨S16x768, .f32⟩
  | 66 => ⟨S16x768x1x1, .f32⟩
  | 67 => ⟨S16x768x1x1, .f32⟩
  | 68 => ⟨S16x768x1x1, .f32⟩
  | _ => ⟨S16x3x224x224, .f32⟩

abbrev hbmTy (i : Nat) : BufTy := match i / 128 with
  | 0 => hbmTy0_0 i
  | 1 => hbmTy0_1 i
  | 2 => hbmTy0_2 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_cst : Ref sig .tc := ⟨.hbm, 72, rfl⟩
abbrev main_call1_v0 : Ref sig .tc := ⟨.hbm, 73, rfl⟩
abbrev main_v59 : Ref sig .tc := ⟨.hbm, 74, rfl⟩
abbrev main_c_0 : Ref sig .tc := ⟨.hbm, 75, rfl⟩
abbrev main_call2_v0 : Ref sig .tc := ⟨.hbm, 76, rfl⟩
abbrev main_v60 : Ref sig .tc := ⟨.hbm, 77, rfl⟩
abbrev main_cst_1 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_call3_cst : Ref sig .tc := ⟨.hbm, 137, rfl⟩
abbrev main_call3_v0 : Ref sig .tc := ⟨.hbm, 138, rfl⟩
abbrev main_v119 : Ref sig .tc := ⟨.hbm, 139, rfl⟩
abbrev main_c_2 : Ref sig .tc := ⟨.hbm, 140, rfl⟩
abbrev main_call4_v0 : Ref sig .tc := ⟨.hbm, 141, rfl⟩
abbrev main_v120 : Ref sig .tc := ⟨.hbm, 142, rfl⟩
abbrev main_cst_3 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_call5_cst : Ref sig .tc := ⟨.hbm, 202, rfl⟩
abbrev main_call5_v0 : Ref sig .tc := ⟨.hbm, 203, rfl⟩
abbrev main_v179 : Ref sig .tc := ⟨.hbm, 204, rfl⟩
abbrev main_c_4 : Ref sig .tc := ⟨.hbm, 205, rfl⟩
abbrev main_call6_v0 : Ref sig .tc := ⟨.hbm, 206, rfl⟩
abbrev main_v180 : Ref sig .tc := ⟨.hbm, 207, rfl⟩
abbrev main_cst_5 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_call7_cst : Ref sig .tc := ⟨.hbm, 267, rfl⟩
abbrev main_call7_v0 : Ref sig .tc := ⟨.hbm, 268, rfl⟩
abbrev main_v239 : Ref sig .tc := ⟨.hbm, 269, rfl⟩
abbrev main_cst_6 : Ref sig .tc := ⟨.hbm, 270, rfl⟩
abbrev main_v240 : Ref sig .tc := ⟨.hbm, 271, rfl⟩
abbrev main_v241 : Ref sig .tc := ⟨.hbm, 272, rfl⟩
abbrev main_cst_7 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_cst_8 : Ref sig .tc := ⟨.hbm, 278, rfl⟩
abbrev main_v246 : Ref sig .tc := ⟨.hbm, 279, rfl⟩
abbrev main_v247 : Ref sig .tc := ⟨.hbm, 280, rfl⟩
abbrev main_cst_9 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_cst_10 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_call8_v0 : Ref sig .tc := ⟨.hbm, 294, rfl⟩
abbrev main_call8_cst : Ref sig .tc := ⟨.hbm, 295, rfl⟩
abbrev main_call8_c : Ref sig .tc := ⟨.hbm, 296, rfl⟩
abbrev main_call8_v1_0 : Ref sig .tc := ⟨.hbm, 297, rfl⟩
abbrev main_v259 : Ref sig .tc := ⟨.hbm, 298, rfl⟩
abbrev main_call9_c : Ref sig .tc := ⟨.hbm, 299, rfl⟩
abbrev main_call9_v0 : Ref sig .tc := ⟨.hbm, 300, rfl⟩
abbrev main_call9_v1 : Ref sig .tc := ⟨.hbm, 301, rfl⟩
abbrev main_call9_c_0 : Ref sig .tc := ⟨.hbm, 302, rfl⟩
abbrev main_call9_v2 : Ref sig .tc := ⟨.hbm, 303, rfl⟩
abbrev main_call9_v3 : Ref sig .tc := ⟨.hbm, 304, rfl⟩
abbrev main_call9_v4 : Ref sig .tc := ⟨.hbm, 305, rfl⟩
abbrev main_call9_v5 : Ref sig .tc := ⟨.hbm, 306, rfl⟩
abbrev main_call9_c_1 : Ref sig .tc := ⟨.hbm, 307, rfl⟩
abbrev main_call9_c_2 : Ref sig .tc := ⟨.hbm, 308, rfl⟩
abbrev main_call9_v6 : Ref sig .tc := ⟨.hbm, 309, rfl⟩
abbrev main_call9_v7 : Ref sig .tc := ⟨.hbm, 310, rfl⟩
abbrev main_call9_v8 : Ref sig .tc := ⟨.hbm, 311, rfl⟩
abbrev main_call9_v9 : Ref sig .tc := ⟨.hbm, 312, rfl⟩
abbrev main_call9_v10 : Ref sig .tc := ⟨.hbm, 313, rfl⟩
abbrev main_call9_v11 : Ref sig .tc := ⟨.hbm, 314, rfl⟩
abbrev main_call9_c_3 : Ref sig .tc := ⟨.hbm, 315, rfl⟩
abbrev main_call9_v12 : Ref sig .tc := ⟨.hbm, 316, rfl⟩
abbrev main_call9_v13 : Ref sig .tc := ⟨.hbm, 317, rfl⟩
abbrev main_call9_v14 : Ref sig .tc := ⟨.hbm, 318, rfl⟩
abbrev main_call9_cst : Ref sig .tc := ⟨.hbm, 319, rfl⟩
abbrev main_call9_v15 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩

abbrev nD : Nat := 1
abbrev τ : Topo := Topo.v7x

variable {F : FTy → Type} [FloatOps F]
-- ==== Proof.Ref.Ops.lean ====
/-
  The reference program as lists of its host operations, in order: one list per level of the encoder and one for the
  codebook search, each cut where the printed program is cut into parts.
-/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Operations of level 0, in printed part 0. -/
abbrev level0a : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x3x224x224, .f32⟩) main_arg0) (TRef.of (T := ⟨S_, .f32⟩) main_call0_v0) (TRef.of (T := ⟨S16x3x225x225, .f32⟩) main_v0) (fun x v => pad S16x3x225x225 ![0, 0, 0, 0] ![0, 0, 1, 1] ![0, 0, 0, 0] x v pads_S16x3x224x224_S16x3x225x225_000_000_010_010 h_S_),
    nullary main_cst (constant S_ .f32 0x00000000#32),
    unary main_cst main_v1 (broadcastInDim S16x96x112x112 ![] bcast_S_S16x96x112x112 : (⟨S_, .f32⟩ : BufTy).Contents (Elt F) → (⟨S16x96x112x112, .f32⟩ : BufTy).Contents (Elt F)),
    unary main_v0 main_v2 ((Host.slice S16x3x112x112 ![0, 0, 0, 0] ![1, 1, 2, 2] · slicesBy_S16x3x225x225_S16x3x112x112_0s1_0s1_0s2_0s2) : (⟨S16x3x225x225, .f32⟩ : BufTy).Contents (Elt F) → (⟨S16x3x112x112, .f32⟩ : BufTy).Contents (Elt F)),
    unary main_arg1 main_v3 ((extractStridedSlice S96x3x1x1 ![0, 0, 0, 0] · slices_S96x3x3x3_S96x3x1x1_0_0_0_0) : (⟨S96x3x3x3, .f32⟩ : BufTy).Contents (Elt F) → (⟨S96x3x1x1, .f32⟩ : BufTy).Contents (Elt F)),
    reshape main_v3 main_v4 (rfl : (.f32 : EltTy) = .f32) shapeCasts_S96x3x1x1_S96x3,
    binary main_v4 main_v2 main_v5 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v5 main_v6 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v1 main_v6 main_v7 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v8 ((Host.slice S16x3x112x112 ![0, 0, 0, 1] ![1, 1, 2, 2] · slicesBy_S16x3x225x225_S16x3x112x112_0s1_0s1_0s2_1s2) : (⟨S16x3x225x225, .f32⟩ : BufTy).Contents (Elt F) → (⟨S16x3x112x112, .f32⟩ : BufTy).Contents (Elt F)),
    unary main_arg1 main_v9 ((extractStridedSlice S96x3x1x1 ![0, 0, 0, 1] · slices_S96x3x3x3_S96x3x1x1_0_0_0_1) : (⟨S96x3x3x3, .f32⟩ : BufTy).Contents (Elt F) → (⟨S96x3x1x1, .f32⟩ : BufTy).Contents (Elt F)),
    reshape main_v9 main_v10 (rfl : (.f32 : EltTy) = .f32) shapeCasts_S96x3x1x1_S96x3,
    binary main_v10 main_v8 main_v11 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v11 main_v12 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v7 main_v12 main_v13 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v14 ((Host.slice S16x3x112x112 ![0, 0, 0, 2] ![1, 1, 2, 2] · slicesBy_S16x3x225x225_S16x3x112x112_0s1_0s1_0s2_2s2) : (⟨S16x3x225x225, .f32⟩ : BufTy).Contents (Elt F) → (⟨S16x3x112x112, .f32⟩ : BufTy).Contents (Elt F)),
    unary main_arg1 main_v15 ((extractStridedSlice S96x3x1x1 ![0, 0, 0, 2] · slices_S96x3x3x3_S96x3x1x1_0_0_0_2) : (⟨S96x3x3x3, .f32⟩ : BufTy).Contents (Elt F) → (⟨S96x3x1x1, .f32⟩ : BufTy).Contents (Elt F)),
    reshape main_v15 main_v16 (rfl : (.f32 : EltTy) = .f32) shapeCasts_S96x3x1x1_S96x3,
    binary main_v16 main_v14 main_v17 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v17 main_v18 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v13 main_v18 main_v19 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v20 ((Host.slice S16x3x112x112 ![0, 0, 1, 0] ![1, 1, 2, 2] · slicesBy_S16x3x225x225_S16x3x112x112_0s1_0s1_1s2_0s2) : (⟨S16x3x225x225, .f32⟩ : BufTy).Contents (Elt F) → (⟨S16x3x112x112, .f32⟩ : BufTy).Contents (Elt F)),
    unary main_arg1 main_v21 ((extractStridedSlice S96x3x1x1 ![0, 0, 1, 0] · slices_S96x3x3x3_S96x3x1x1_0_0_1_0) : (⟨S96x3x3x3, .f32⟩ : BufTy).Contents (Elt F) → (⟨S96x3x1x1, .f32⟩ : BufTy).Contents (Elt F)),
    reshape main_v21 main_v22 (rfl : (.f32 : EltTy) = .f32) shapeCasts_S96x3x1x1_S96x3,
    binary main_v22 main_v20 main_v23 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v23 main_v24 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v19 main_v24 main_v25 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v26 ((Host.slice S16x3x112x112 ![0, 0, 1, 1] ![1, 1, 2, 2] · slicesBy_S16x3x225x225_S16x3x112x112_0s1_0s1_1s2_1s2) : (⟨S16x3x225x225, .f32⟩ : BufTy).Contents (Elt F) → (⟨S16x3x112x112, .f32⟩ : BufTy).Contents (Elt F)),
    unary main_arg1 main_v27 ((extractStridedSlice S96x3x1x1 ![0, 0, 1, 1] · slices_S96x3x3x3_S96x3x1x1_0_0_1_1) : (⟨S96x3x3x3, .f32⟩ : BufTy).Contents (Elt F) → (⟨S96x3x1x1, .f32⟩ : BufTy).Contents (Elt F)),
    reshape main_v27 main_v28 (rfl : (.f32 : EltTy) = .f32) shapeCasts_S96x3x1x1_S96x3,
    binary main_v28 main_v26 main_v29 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v29 main_v30 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v25 main_v30 main_v31 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v32 ((Host.slice S16x3x112x112 ![0, 0, 1, 2] ![1, 1, 2, 2] · slicesBy_S16x3x225x225_S16x3x112x112_0s1_0s1_1s2_2s2) : (⟨S16x3x225x225, .f32⟩ : BufTy).Contents (Elt F) → (⟨S16x3x112x112, .f32⟩ : BufTy).Contents (Elt F)),
    unary main_arg1 main_v33 ((extractStridedSlice S96x3x1x1 ![0, 0, 1, 2] · slices_S96x3x3x3_S96x3x1x1_0_0_1_2) : (⟨S96x3x3x3, .f32⟩ : BufTy).Contents (Elt F) → (⟨S96x3x1x1, .f32⟩ : BufTy).Contents (Elt F)),
    reshape main_v33 main_v34 (rfl : (.f32 : EltTy) = .f32) shapeCasts_S96x3x1x1_S96x3,
    binary main_v34 main_v32 main_v35 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v35 main_v36 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v31 main_v36 main_v37 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v38 ((Host.slice S16x3x112x112 ![0, 0, 2, 0] ![1, 1, 2, 2] · slicesBy_S16x3x225x225_S16x3x112x112_0s1_0s1_2s2_0s2) : (⟨S16x3x225x225, .f32⟩ : BufTy).Contents (Elt F) → (⟨S16x3x112x112, .f32⟩ : BufTy).Contents (Elt F)),
    unary main_arg1 main_v39 ((extractStridedSlice S96x3x1x1 ![0, 0, 2, 0] · slices_S96x3x3x3_S96x3x1x1_0_0_2_0) : (⟨S96x3x3x3, .f32⟩ : BufTy).Contents (Elt F) → (⟨S96x3x1x1, .f32⟩ : BufTy).Contents (Elt F)),
    reshape main_v39 main_v40 (rfl : (.f32 : EltTy) = .f32) shapeCasts_S96x3x1x1_S96x3,
    binary main_v40 main_v38 main_v41 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v41 main_v42 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v37 main_v42 main_v43 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v44 ((Host.slice S16x3x112x112 ![0, 0, 2, 1] ![1, 1, 2, 2] · slicesBy_S16x3x225x225_S16x3x112x112_0s1_0s1_2s2_1s2) : (⟨S16x3x225x225, .f32⟩ : BufTy).Contents (Elt F) → (⟨S16x3x112x112, .f32⟩ : BufTy).Contents (Elt F)),
    unary main_arg1 main_v45 ((extractStridedSlice S96x3x1x1 ![0, 0, 2, 1] · slices_S96x3x3x3_S96x3x1x1_0_0_2_1) : (⟨S96x3x3x3, .f32⟩ : BufTy).Contents (Elt F) → (⟨S96x3x1x1, .f32⟩ : BufTy).Contents (Elt F)),
    reshape main_v45 main_v46 (rfl : (.f32 : EltTy) = .f32) shapeCasts_S96x3x1x1_S96x3,
    binary main_v46 main_v44 main_v47 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v47 main_v48 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v43 main_v48 main_v49 (addf : (⟨S16x96x112x112, .f32⟩ : BufTy).Contents (Elt F) → (⟨S16x96x112x112, .f32⟩ : BufTy).Contents (Elt F) → (⟨S16x96x112x112, .f32⟩ : BufTy).Contents (Elt F)),
    unary main_v0 main_v50 ((Host.slice S16x3x112x112 ![0, 0, 2, 2] ![1, 1, 2, 2] · slicesBy_S16x3x225x225_S16x3x112x112_0s1_0s1_2s2_2s2) : (⟨S16x3x225x225, .f32⟩ : BufTy).Contents (Elt F) → (⟨S16x3x112x112, .f32⟩ : BufTy).Contents (Elt F)),
    unary main_arg1 main_v51 ((extractStridedSlice S96x3x1x1 ![0, 0, 2, 2] · slices_S96x3x3x3_S96x3x1x1_0_0_2_2) : (⟨S96x3x3x3, .f32⟩ : BufTy).Contents (Elt F) → (⟨S96x3x1x1, .f32⟩ : BufTy).Contents (Elt F)),
    reshape main_v51 main_v52 (rfl : (.f32 : EltTy) = .f32) shapeCasts_S96x3x1x1_S96x3,
    binary main_v52 main_v50 main_v53 ((fun l r => Host.dotGeneral dot_S96x3_S16x3x112x112_S96x16x112x112_1_1_0_023_n_n none l r) : (⟨S96x3, .f32⟩ : BufTy).Contents (Elt F) → (⟨S16x3x112x112, .f32⟩ : BufTy).Contents (Elt F) → (⟨S96x16x112x112, .f32⟩ : BufTy).Contents (Elt F)),
    unary main_v53 main_v54 ((transpose S16x96x112x112 [1, 0, 2, 3] · transposes_S96x16x112x112_S16x96x112x112_1_0_2_3) : (⟨S96x16x112x112, .f32⟩ : BufTy).Contents (Elt F) → (⟨S16x96x112x112, .f32⟩ : BufTy).Contents (Elt F)),
    binary main_v49 main_v54 main_v55 (addf : (⟨S16x96x112x112, .f32⟩ : BufTy).Contents (Elt F) → (⟨S16x96x112x112, .f32⟩ : BufTy).Contents (Elt F) → (⟨S16x96x112x112, .f32⟩ : BufTy).Contents (Elt F)),
    unary main_arg2 main_v56 (broadcastInDim S1x96x1x1 ![1] bcast_S96_S1x96x1x1_1 : (⟨S96, .f32⟩ : BufTy).Contents (Elt F) → (⟨S1x96x1x1, .f32⟩ : BufTy).Contents (Elt F)),
    unary main_v56 main_v57 (broadcastInDim S16x96x112x112 ![0, 1, 2, 3] bcast_S1x96x1x1_S16x96x112x112_0_1_2_3 : (⟨S1x96x1x1, .f32⟩ : BufTy).Contents (Elt F) → (⟨S16x96x112x112, .f32⟩ : BufTy).Contents (Elt F)) ]

/-- Operations of level 0, in printed part 1. -/
abbrev level0b : List (HloOp τ sig (Elt F)) :=
  [ binary main_v55 main_v57 main_v58 (addf : (⟨S16x96x112x112, .f32⟩ : BufTy).Contents (Elt F) → (⟨S16x96x112x112, .f32⟩ : BufTy).Contents (Elt F) → (⟨S16x96x112x112, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x96x112x112, .f32⟩) main_call1_v0) (broadcastInDim S16x96x112x112 ![] bcast_S_S16x96x112x112),
    TRef.binary (TRef.of (T := ⟨S16x96x112x112, .f32⟩) main_v58) (TRef.of (T := ⟨S16x96x112x112, .f32⟩) main_call1_v0) (TRef.of (T := ⟨S16x96x112x112, .f32⟩) main_v59) maximumf ]

/-- Operations of level 1, in printed part 1. -/
abbrev level1a : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S16x96x112x112, .f32⟩) main_v59) (TRef.of (T := ⟨S_, .f32⟩) main_call2_v0) (TRef.of (T := ⟨S16x96x113x113, .f32⟩) main_v60) (fun x v => pad S16x96x113x113 ![0, 0, 0, 0] ![0, 0, 1, 1] ![0, 0, 0, 0] x v pads_S16x96x112x112_S16x96x113x113_000_000_010_010 h_S_),
    nullary main_cst_1 (constant S_ .f32 0x00000000#32),
    unary main_cst_1 main_v61 (broadcastInDim S16x192x56x56 ![] bcast_S_S16x192x56x56 : (⟨S_, .f32⟩ : BufTy).Contents (Elt F) → (⟨S16x192x56x56, .f32⟩ : BufTy).Contents (Elt F)),
    unary main_v60 main_v62 ((Host.slice S16x96x56x56 ![0, 0, 0, 0] ![1, 1, 2, 2] · slicesBy_S16x96x113x113_S16x96x56x56_0s1_0s1_0s2_0s2) : (⟨S16x96x113x113, .f32⟩ : BufTy).Contents (Elt F) → (⟨S16x96x56x56, .f32⟩ : BufTy).Contents (Elt F)),
    unary main_arg3 main_v63 ((extractStridedSlice S192x96x1x1 ![0, 0, 0, 0] · slices_S192x96x3x3_S192x96x1x1_0_0_0_0) : (⟨S192x96x3x3, .f32⟩ : BufTy).Contents (Elt F) → (⟨S192x96x1x1, .f32⟩ : BufTy).Contents (Elt F)),
    reshape main_v63 main_v64 (rfl : (.f32 : EltTy) = .f32) shapeCasts_S192x96x1x1_S192x96,
    binary main_v64 main_v62 main_v65 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v65 main_v66 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v61 main_v66 main_v67 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v68 ((Host.slice S16x96x56x56 ![0, 0, 0, 1] ![1, 1, 2, 2] · slicesBy_S16x96x113x113_S16x96x56x56_0s1_0s1_0s2_1s2) : (⟨S16x96x113x113, .f32⟩ : BufTy).Contents (Elt F) → (⟨S16x96x56x56, .f32⟩ : BufTy).Contents (Elt F)),
    unary main_arg3 main_v69 ((extractStridedSlice S192x96x1x1 ![0, 0, 0, 1] · slices_S192x96x3x3_S192x96x1x1_0_0_0_1) : (⟨S192x96x3x3, .f32⟩ : BufTy).Contents (Elt F) → (⟨S192x96x1x1, .f32⟩ : BufTy).Contents (Elt F)),
    reshape main_v69 main_v70 (rfl : (.f32 : EltTy) = .f32) shapeCasts_S192x96x1x1_S192x96,
    binary main_v70 main_v68 main_v71 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v71 main_v72 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v67 main_v72 main_v73 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v74 ((Host.slice S16x96x56x56 ![0, 0, 0, 2] ![1, 1, 2, 2] · slicesBy_S16x96x113x113_S16x96x56x56_0s1_0s1_0s2_2s2) : (⟨S16x96x113x113, .f32⟩ : BufTy).Contents (Elt F) → (⟨S16x96x56x56, .f32⟩ : BufTy).Contents (Elt F)),
    unary main_arg3 main_v75 ((extractStridedSlice S192x96x1x1 ![0, 0, 0, 2] · slices_S192x96x3x3_S192x96x1x1_0_0_0_2) : (⟨S192x96x3x3, .f32⟩ : BufTy).Contents (Elt F) → (⟨S192x96x1x1, .f32⟩ : BufTy).Contents (Elt F)),
    reshape main_v75 main_v76 (rfl : (.f32 : EltTy) = .f32) shapeCasts_S192x96x1x1_S192x96,
    binary main_v76 main_v74 main_v77 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v77 main_v78 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v73 main_v78 main_v79 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v80 ((Host.slice S16x96x56x56 ![0, 0, 1, 0] ![1, 1, 2, 2] · slicesBy_S16x96x113x113_S16x96x56x56_0s1_0s1_1s2_0s2) : (⟨S16x96x113x113, .f32⟩ : BufTy).Contents (Elt F) → (⟨S16x96x56x56, .f32⟩ : BufTy).Contents (Elt F)),
    unary main_arg3 main_v81 ((extractStridedSlice S192x96x1x1 ![0, 0, 1, 0] · slices_S192x96x3x3_S192x96x1x1_0_0_1_0) : (⟨S192x96x3x3, .f32⟩ : BufTy).Contents (Elt F) → (⟨S192x96x1x1, .f32⟩ : BufTy).Contents (Elt F)),
    reshape main_v81 main_v82 (rfl : (.f32 : EltTy) = .f32) shapeCasts_S192x96x1x1_S192x96,
    binary main_v82 main_v80 main_v83 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v83 main_v84 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v79 main_v84 main_v85 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v86 ((Host.slice S16x96x56x56 ![0, 0, 1, 1] ![1, 1, 2, 2] · slicesBy_S16x96x113x113_S16x96x56x56_0s1_0s1_1s2_1s2) : (⟨S16x96x113x113, .f32⟩ : BufTy).Contents (Elt F) → (⟨S16x96x56x56, .f32⟩ : BufTy).Contents (Elt F)),
    unary main_arg3 main_v87 ((extractStridedSlice S192x96x1x1 ![0, 0, 1, 1] · slices_S192x96x3x3_S192x96x1x1_0_0_1_1) : (⟨S192x96x3x3, .f32⟩ : BufTy).Contents (Elt F) → (⟨S192x96x1x1, .f32⟩ : BufTy).Contents (Elt F)),
    reshape main_v87 main_v88 (rfl : (.f32 : EltTy) = .f32) shapeCasts_S192x96x1x1_S192x96,
    binary main_v88 main_v86 main_v89 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v89 main_v90 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v85 main_v90 main_v91 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v92 ((Host.slice S16x96x56x56 ![0, 0, 1, 2] ![1, 1, 2, 2] · slicesBy_S16x96x113x113_S16x96x56x56_0s1_0s1_1s2_2s2) : (⟨S16x96x113x113, .f32⟩ : BufTy).Contents (Elt F) → (⟨S16x96x56x56, .f32⟩ : BufTy).Contents (Elt F)),
    unary main_arg3 main_v93 ((extractStridedSlice S192x96x1x1 ![0, 0, 1, 2] · slices_S192x96x3x3_S192x96x1x1_0_0_1_2) : (⟨S192x96x3x3, .f32⟩ : BufTy).Contents (Elt F) → (⟨S192x96x1x1, .f32⟩ : BufTy).Contents (Elt F)),
    reshape main_v93 main_v94 (rfl : (.f32 : EltTy) = .f32) shapeCasts_S192x96x1x1_S192x96,
    binary main_v94 main_v92 main_v95 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v95 main_v96 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v91 main_v96 main_v97 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v98 ((Host.slice S16x96x56x56 ![0, 0, 2, 0] ![1, 1, 2, 2] · slicesBy_S16x96x113x113_S16x96x56x56_0s1_0s1_2s2_0s2) : (⟨S16x96x113x113, .f32⟩ : BufTy).Contents (Elt F) → (⟨S16x96x56x56, .f32⟩ : BufTy).Contents (Elt F)),
    unary main_arg3 main_v99 ((extractStridedSlice S192x96x1x1 ![0, 0, 2, 0] · slices_S192x96x3x3_S192x96x1x1_0_0_2_0) : (⟨S192x96x3x3, .f32⟩ : BufTy).Contents (Elt F) → (⟨S192x96x1x1, .f32⟩ : BufTy).Contents (Elt F)),
    reshape main_v99 main_v100 (rfl : (.f32 : EltTy) = .f32) shapeCasts_S192x96x1x1_S192x96,
    binary main_v100 main_v98 main_v101 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v101 main_v102 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v97 main_v102 main_v103 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v104 ((Host.slice S16x96x56x56 ![0, 0, 2, 1] ![1, 1, 2, 2] · slicesBy_S16x96x113x113_S16x96x56x56_0s1_0s1_2s2_1s2) : (⟨S16x96x113x113, .f32⟩ : BufTy).Contents (Elt F) → (⟨S16x96x56x56, .f32⟩ : BufTy).Contents (Elt F)),
    unary main_arg3 main_v105 ((extractStridedSlice S192x96x1x1 ![0, 0, 2, 1] · slices_S192x96x3x3_S192x96x1x1_0_0_2_1) : (⟨S192x96x3x3, .f32⟩ : BufTy).Contents (Elt F) → (⟨S192x96x1x1, .f32⟩ : BufTy).Contents (Elt F)),
    reshape main_v105 main_v106 (rfl : (.f32 : EltTy) = .f32) shapeCasts_S192x96x1x1_S192x96,
    binary main_v106 main_v104 main_v107 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v107 main_v108 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v103 main_v108 main_v109 (addf : (⟨S16x192x56x56, .f32⟩ : BufTy).Contents (Elt F) → (⟨S16x192x56x56, .f32⟩ : BufTy).Contents (Elt F) → (⟨S16x192x56x56, .f32⟩ : BufTy).Contents (Elt F)),
    unary main_v60 main_v110 ((Host.slice S16x96x56x56 ![0, 0, 2, 2] ![1, 1, 2, 2] · slicesBy_S16x96x113x113_S16x96x56x56_0s1_0s1_2s2_2s2) : (⟨S16x96x113x113, .f32⟩ : BufTy).Contents (Elt F) → (⟨S16x96x56x56, .f32⟩ : BufTy).Contents (Elt F)),
    unary main_arg3 main_v111 ((extractStridedSlice S192x96x1x1 ![0, 0, 2, 2] · slices_S192x96x3x3_S192x96x1x1_0_0_2_2) : (⟨S192x96x3x3, .f32⟩ : BufTy).Contents (Elt F) → (⟨S192x96x1x1, .f32⟩ : BufTy).Contents (Elt F)),
    reshape main_v111 main_v112 (rfl : (.f32 : EltTy) = .f32) shapeCasts_S192x96x1x1_S192x96,
    binary main_v112 main_v110 main_v113 ((fun l r => Host.dotGeneral dot_S192x96_S16x96x56x56_S192x16x56x56_1_1_0_023_n_n none l r) : (⟨S192x96, .f32⟩ : BufTy).Contents (Elt F) → (⟨S16x96x56x56, .f32⟩ : BufTy).Contents (Elt F) → (⟨S192x16x56x56, .f32⟩ : BufTy).Contents (Elt F)),
    unary main_v113 main_v114 ((transpose S16x192x56x56 [1, 0, 2, 3] · transposes_S192x16x56x56_S16x192x56x56_1_0_2_3) : (⟨S192x16x56x56, .f32⟩ : BufTy).Contents (Elt F) → (⟨S16x192x56x56, .f32⟩ : BufTy).Contents (Elt F)),
    binary main_v109 main_v114 main_v115 (addf : (⟨S16x192x56x56, .f32⟩ : BufTy).Contents (Elt F) → (⟨S16x192x56x56, .f32⟩ : BufTy).Contents (Elt F) → (⟨S16x192x56x56, .f32⟩ : BufTy).Contents (Elt F)) ]

/-- Operations of level 1, in printed part 2. -/
abbrev level1b : List (HloOp τ sig (Elt F)) :=
  [ unary main_arg4 main_v116 (broadcastInDim S1x192x1x1 ![1] bcast_S192_S1x192x1x1_1 : (⟨S192, .f32⟩ : BufTy).Contents (Elt F) → (⟨S1x192x1x1, .f32⟩ : BufTy).Contents (Elt F)),
    unary main_v116 main_v117 (broadcastInDim S16x192x56x56 ![0, 1, 2, 3] bcast_S1x192x1x1_S16x192x56x56_0_1_2_3 : (⟨S1x192x1x1, .f32⟩ : BufTy).Contents (Elt F) → (⟨S16x192x56x56, .f32⟩ : BufTy).Contents (Elt F)),
    binary main_v115 main_v117 main_v118 (addf : (⟨S16x192x56x56, .f32⟩ : BufTy).Contents (Elt F) → (⟨S16x192x56x56, .f32⟩ : BufTy).Contents (Elt F) → (⟨S16x192x56x56, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x192x56x56, .f32⟩) main_call3_v0) (broadcastInDim S16x192x56x56 ![] bcast_S_S16x192x56x56),
    TRef.binary (TRef.of (T := ⟨S16x192x56x56, .f32⟩) main_v118) (TRef.of (T := ⟨S16x192x56x56, .f32⟩) main_call3_v0) (TRef.of (T := ⟨S16x192x56x56, .f32⟩) main_v119) maximumf ]

/-- Operations of level 2, in printed part 2. -/
abbrev level2a : List (HloOp τ sig (Elt F)) :=
  [ nullary main_c_2 (constantI S_ 32 0#32),
    TRef.unary (TRef.of (T := ⟨S_, .i32⟩) main_c_2) (TRef.of (T := ⟨S_, .f32⟩) main_call4_v0) (sitofp .f32),
    TRef.binary (TRef.of (T := ⟨S16x192x56x56, .f32⟩) main_v119) (TRef.of (T := ⟨S_, .f32⟩) main_call4_v0) (TRef.of (T := ⟨S16x192x57x57, .f32⟩) main_v120) (fun x v => pad S16x192x57x57 ![0, 0, 0, 0] ![0, 0, 1, 1] ![0, 0, 0, 0] x v pads_S16x192x56x56_S16x192x57x57_000_000_010_010 h_S_),
    nullary main_cst_3 (constant S_ .f32 0x00000000#32),
    unary main_cst_3 main_v121 (broadcastInDim S16x384x28x28 ![] bcast_S_S16x384x28x28 : (⟨S_, .f32⟩ : BufTy).Contents (Elt F) → (⟨S16x384x28x28, .f32⟩ : BufTy).Contents (Elt F)),
    unary main_v120 main_v122 ((Host.slice S16x192x28x28 ![0, 0, 0, 0] ![1, 1, 2, 2] · slicesBy_S16x192x57x57_S16x192x28x28_0s1_0s1_0s2_0s2) : (⟨S16x192x57x57, .f32⟩ : BufTy).Contents (Elt F) → (⟨S16x192x28x28, .f32⟩ : BufTy).Contents (Elt F)),
    unary main_arg5 main_v123 ((extractStridedSlice S384x192x1x1 ![0, 0, 0, 0] · slices_S384x192x3x3_S384x192x1x1_0_0_0_0) : (⟨S384x192x3x3, .f32⟩ : BufTy).Contents (Elt F) → (⟨S384x192x1x1, .f32⟩ : BufTy).Contents (Elt F)),
    reshape main_v123 main_v124 (rfl : (.f32 : EltTy) = .f32) shapeCasts_S384x192x1x1_S384x192,
    binary main_v124 main_v122 main_v125 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v125 main_v126 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v121 main_v126 main_v127 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v128 ((Host.slice S16x192x28x28 ![0, 0, 0, 1] ![1, 1, 2, 2] · slicesBy_S16x192x57x57_S16x192x28x28_0s1_0s1_0s2_1s2) : (⟨S16x192x57x57, .f32⟩ : BufTy).Contents (Elt F) → (⟨S16x192x28x28, .f32⟩ : BufTy).Contents (Elt F)),
    unary main_arg5 main_v129 ((extractStridedSlice S384x192x1x1 ![0, 0, 0, 1] · slices_S384x192x3x3_S384x192x1x1_0_0_0_1) : (⟨S384x192x3x3, .f32⟩ : BufTy).Contents (Elt F) → (⟨S384x192x1x1, .f32⟩ : BufTy).Contents (Elt F)),
    reshape main_v129 main_v130 (rfl : (.f32 : EltTy) = .f32) shapeCasts_S384x192x1x1_S384x192,
    binary main_v130 main_v128 main_v131 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v131 main_v132 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v127 main_v132 main_v133 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v134 ((Host.slice S16x192x28x28 ![0, 0, 0, 2] ![1, 1, 2, 2] · slicesBy_S16x192x57x57_S16x192x28x28_0s1_0s1_0s2_2s2) : (⟨S16x192x57x57, .f32⟩ : BufTy).Contents (Elt F) → (⟨S16x192x28x28, .f32⟩ : BufTy).Contents (Elt F)),
    unary main_arg5 main_v135 ((extractStridedSlice S384x192x1x1 ![0, 0, 0, 2] · slices_S384x192x3x3_S384x192x1x1_0_0_0_2) : (⟨S384x192x3x3, .f32⟩ : BufTy).Contents (Elt F) → (⟨S384x192x1x1, .f32⟩ : BufTy).Contents (Elt F)),
    reshape main_v135 main_v136 (rfl : (.f32 : EltTy) = .f32) shapeCasts_S384x192x1x1_S384x192,
    binary main_v136 main_v134 main_v137 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v137 main_v138 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v133 main_v138 main_v139 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v140 ((Host.slice S16x192x28x28 ![0, 0, 1, 0] ![1, 1, 2, 2] · slicesBy_S16x192x57x57_S16x192x28x28_0s1_0s1_1s2_0s2) : (⟨S16x192x57x57, .f32⟩ : BufTy).Contents (Elt F) → (⟨S16x192x28x28, .f32⟩ : BufTy).Contents (Elt F)),
    unary main_arg5 main_v141 ((extractStridedSlice S384x192x1x1 ![0, 0, 1, 0] · slices_S384x192x3x3_S384x192x1x1_0_0_1_0) : (⟨S384x192x3x3, .f32⟩ : BufTy).Contents (Elt F) → (⟨S384x192x1x1, .f32⟩ : BufTy).Contents (Elt F)),
    reshape main_v141 main_v142 (rfl : (.f32 : EltTy) = .f32) shapeCasts_S384x192x1x1_S384x192,
    binary main_v142 main_v140 main_v143 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v143 main_v144 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v139 main_v144 main_v145 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v146 ((Host.slice S16x192x28x28 ![0, 0, 1, 1] ![1, 1, 2, 2] · slicesBy_S16x192x57x57_S16x192x28x28_0s1_0s1_1s2_1s2) : (⟨S16x192x57x57, .f32⟩ : BufTy).Contents (Elt F) → (⟨S16x192x28x28, .f32⟩ : BufTy).Contents (Elt F)),
    unary main_arg5 main_v147 ((extractStridedSlice S384x192x1x1 ![0, 0, 1, 1] · slices_S384x192x3x3_S384x192x1x1_0_0_1_1) : (⟨S384x192x3x3, .f32⟩ : BufTy).Contents (Elt F) → (⟨S384x192x1x1, .f32⟩ : BufTy).Contents (Elt F)),
    reshape main_v147 main_v148 (rfl : (.f32 : EltTy) = .f32) shapeCasts_S384x192x1x1_S384x192,
    binary main_v148 main_v146 main_v149 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v149 main_v150 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v145 main_v150 main_v151 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v152 ((Host.slice S16x192x28x28 ![0, 0, 1, 2] ![1, 1, 2, 2] · slicesBy_S16x192x57x57_S16x192x28x28_0s1_0s1_1s2_2s2) : (⟨S16x192x57x57, .f32⟩ : BufTy).Contents (Elt F) → (⟨S16x192x28x28, .f32⟩ : BufTy).Contents (Elt F)),
    unary main_arg5 main_v153 ((extractStridedSlice S384x192x1x1 ![0, 0, 1, 2] · slices_S384x192x3x3_S384x192x1x1_0_0_1_2) : (⟨S384x192x3x3, .f32⟩ : BufTy).Contents (Elt F) → (⟨S384x192x1x1, .f32⟩ : BufTy).Contents (Elt F)),
    reshape main_v153 main_v154 (rfl : (.f32 : EltTy) = .f32) shapeCasts_S384x192x1x1_S384x192,
    binary main_v154 main_v152 main_v155 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v155 main_v156 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v151 main_v156 main_v157 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v158 ((Host.slice S16x192x28x28 ![0, 0, 2, 0] ![1, 1, 2, 2] · slicesBy_S16x192x57x57_S16x192x28x28_0s1_0s1_2s2_0s2) : (⟨S16x192x57x57, .f32⟩ : BufTy).Contents (Elt F) → (⟨S16x192x28x28, .f32⟩ : BufTy).Contents (Elt F)),
    unary main_arg5 main_v159 ((extractStridedSlice S384x192x1x1 ![0, 0, 2, 0] · slices_S384x192x3x3_S384x192x1x1_0_0_2_0) : (⟨S384x192x3x3, .f32⟩ : BufTy).Contents (Elt F) → (⟨S384x192x1x1, .f32⟩ : BufTy).Contents (Elt F)),
    reshape main_v159 main_v160 (rfl : (.f32 : EltTy) = .f32) shapeCasts_S384x192x1x1_S384x192,
    binary main_v160 main_v158 main_v161 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v161 main_v162 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v157 main_v162 main_v163 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v164 ((Host.slice S16x192x28x28 ![0, 0, 2, 1] ![1, 1, 2, 2] · slicesBy_S16x192x57x57_S16x192x28x28_0s1_0s1_2s2_1s2) : (⟨S16x192x57x57, .f32⟩ : BufTy).Contents (Elt F) → (⟨S16x192x28x28, .f32⟩ : BufTy).Contents (Elt F)),
    unary main_arg5 main_v165 ((extractStridedSlice S384x192x1x1 ![0, 0, 2, 1] · slices_S384x192x3x3_S384x192x1x1_0_0_2_1) : (⟨S384x192x3x3, .f32⟩ : BufTy).Contents (Elt F) → (⟨S384x192x1x1, .f32⟩ : BufTy).Contents (Elt F)),
    reshape main_v165 main_v166 (rfl : (.f32 : EltTy) = .f32) shapeCasts_S384x192x1x1_S384x192,
    binary main_v166 main_v164 main_v167 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)),
    unary main_v167 main_v168 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v163 main_v168 main_v169 (addf : (⟨S16x384x28x28, .f32⟩ : BufTy).Contents (Elt F) → (⟨S16x384x28x28, .f32⟩ : BufTy).Contents (Elt F) → (⟨S16x384x28x28, .f32⟩ : BufTy).Contents (Elt F)),
    unary main_v120 main_v170 ((Host.slice S16x192x28x28 ![0, 0, 2, 2] ![1, 1, 2, 2] · slicesBy_S16x192x57x57_S16x192x28x28_0s1_0s1_2s2_2s2) : (⟨S16x192x57x57, .f32⟩ : BufTy).Contents (Elt F) → (⟨S16x192x28x28, .f32⟩ : BufTy).Contents (Elt F)),
    unary main_arg5 main_v171 ((extractStridedSlice S384x192x1x1 ![0, 0, 2, 2] · slices_S384x192x3x3_S384x192x1x1_0_0_2_2) : (⟨S384x192x3x3, .f32⟩ : BufTy).Contents (Elt F) → (⟨S384x192x1x1, .f32⟩ : BufTy).Contents (Elt F)),
    reshape main_v171 main_v172 (rfl : (.f32 : EltTy) = .f32) shapeCasts_S384x192x1x1_S384x192,
    binary main_v172 main_v170 main_v173 ((fun l r => Host.dotGeneral dot_S384x192_S16x192x28x28_S384x16x28x28_1_1_0_023_n_n none l r) : (⟨S384x192, .f32⟩ : BufTy).Contents (Elt F) → (⟨S16x192x28x28, .f32⟩ : BufTy).Contents (Elt F) → (⟨S384x16x28x28, .f32⟩ : BufTy).Contents (Elt F)) ]

/-- Operations of level 2, in printed part 3. -/
abbrev level2b : List (HloOp τ sig (Elt F)) :=
  [ unary main_v173 main_v174 ((transpose S16x384x28x28 [1, 0, 2, 3] · transposes_S384x16x28x28_S16x384x28x28_1_0_2_3) : (⟨S384x16x28x28, .f32⟩ : BufTy).Contents (Elt F) → (⟨S16x384x28x28, .f32⟩ : BufTy).Contents (Elt F)),
    binary main_v169 main_v174 main_v175 (addf : (⟨S16x384x28x28, .f32⟩ : BufTy).Contents (Elt F) → (⟨S16x384x28x28, .f32⟩ : BufTy).Contents (Elt F) → (⟨S16x384x28x28, .f32⟩ : BufTy).Contents (Elt F)),
    unary main_arg6 main_v176 (broadcastInDim S1x384x1x1 ![1] bcast_S384_S1x384x1x1_1 : (⟨S384, .f32⟩ : BufTy).Contents (Elt F) → (⟨S1x384x1x1, .f32⟩ : BufTy).Contents (Elt F)),
    unary main_v176 main_v177 (broadcastInDim S16x384x28x28 ![0, 1, 2, 3] bcast_S1x384x1x1_S16x384x28x28_0_1_2_3 : (⟨S1x384x1x1, .f32⟩ : BufTy).Contents (Elt F) → (⟨S16x384x28x28, .f32⟩ : BufTy).Contents (Elt F)),
    binary main_v175 main_v177 main_v178 (addf : (⟨S16x384x28x28, .f32⟩ : BufTy).Contents (Elt F) → (⟨S16x384x28x28, .f32⟩ : BufTy).Contents (Elt F) → (⟨S16x384x28x28, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x384x28x28, .f32⟩) main_call5_v0) (broadcastInDim S16x384x28x28 ![] bcast_S_S16x384x28x28),
    TRef.binary (TRef.of (T := ⟨S16x384x28x28, .f32⟩) main_v178) (TRef.of (T := ⟨S16x384x28x28, .f32⟩) main_call5_v0) (TRef.of (T := ⟨S16x384x28x28, .f32⟩) main_v179) maximumf ]

/-- Operations of level 3, in printed part 3. -/
abbrev level3a : List (HloOp τ sig (Elt F)) :=
  [ nullary main_c_4 (constantI S_ 32 0#32),
    TRef.unary (TRef.of (T := ⟨S_, .i32⟩) main_c_4) (TRef.of (T := ⟨S_, .f32⟩) main_call6_v0) (sitofp .f32),
    TRef.binary (TRef.of (T := ⟨S16x384x28x28, .f32⟩) main_v179) (TRef.of (T := ⟨S_, .f32⟩) main_call6_v0) (TRef.of (T := ⟨S16x384x29x29, .f32⟩) main_v180) (fun x v => pad S16x384x29x29 ![0, 0, 0, 0] ![0, 0, 1, 1] ![0, 0, 0, 0] x v pads_S16x384x28x28_S16x384x29x29_000_000_010_010 h_S_),
    nullary main_cst_5 (constant S_ .f32 0x00000000#32),
    unary main_cst_5 main_v181 (broadcastInDim S16x768x14x14 ![] bcast_S_S16x768x14x14 : (⟨S_, .f32⟩ : BufTy).Contents (Elt F) → (⟨S16x768x14x14, .f32⟩ : BufTy).Contents (Elt F)),
    unary main_v180 main_v182 ((Host.slice S16x384x14x14 ![0, 0, 0, 0] ![1, 1, 2, 2] · slicesBy_S16x384x29x29_S16x384x14x14_0s1_0s1_0s2_0s2) : (⟨S16x384x29x29, .f32⟩ : BufTy).Contents (Elt F) → (⟨S16x384x14x14, .f32⟩ : BufTy).Contents (Elt F)),
    unary main_arg7 main_v183 ((extractStridedSlice S768x384x1x1 ![0, 0, 0, 0] · slices_S768x384x3x3_S768x384x1x1_0_0_0_0) : (⟨S768x384x3x3, .f32⟩ : BufTy).Contents (Elt F) → (⟨S768x384x1x1, .f32⟩ : BufTy).Contents (Elt F)),
    reshape main_v183 main_v184 (rfl : (.f32 : EltTy) = .f32) shapeCasts_S768x384x1x1_S768x384,
    binary main_v184 main_v182 main_v185 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v185 main_v186 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v181 main_v186 main_v187 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v188 ((Host.slice S16x384x14x14 ![0, 0, 0, 1] ![1, 1, 2, 2] · slicesBy_S16x384x29x29_S16x384x14x14_0s1_0s1_0s2_1s2) : (⟨S16x384x29x29, .f32⟩ : BufTy).Contents (Elt F) → (⟨S16x384x14x14, .f32⟩ : BufTy).Contents (Elt F)),
    unary main_arg7 main_v189 ((extractStridedSlice S768x384x1x1 ![0, 0, 0, 1] · slices_S768x384x3x3_S768x384x1x1_0_0_0_1) : (⟨S768x384x3x3, .f32⟩ : BufTy).Contents (Elt F) → (⟨S768x384x1x1, .f32⟩ : BufTy).Contents (Elt F)),
    reshape main_v189 main_v190 (rfl : (.f32 : EltTy) = .f32) shapeCasts_S768x384x1x1_S768x384,
    binary main_v190 main_v188 main_v191 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v191 main_v192 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v187 main_v192 main_v193 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v194 ((Host.slice S16x384x14x14 ![0, 0, 0, 2] ![1, 1, 2, 2] · slicesBy_S16x384x29x29_S16x384x14x14_0s1_0s1_0s2_2s2) : (⟨S16x384x29x29, .f32⟩ : BufTy).Contents (Elt F) → (⟨S16x384x14x14, .f32⟩ : BufTy).Contents (Elt F)),
    unary main_arg7 main_v195 ((extractStridedSlice S768x384x1x1 ![0, 0, 0, 2] · slices_S768x384x3x3_S768x384x1x1_0_0_0_2) : (⟨S768x384x3x3, .f32⟩ : BufTy).Contents (Elt F) → (⟨S768x384x1x1, .f32⟩ : BufTy).Contents (Elt F)),
    reshape main_v195 main_v196 (rfl : (.f32 : EltTy) = .f32) shapeCasts_S768x384x1x1_S768x384,
    binary main_v196 main_v194 main_v197 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v197 main_v198 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v193 main_v198 main_v199 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v200 ((Host.slice S16x384x14x14 ![0, 0, 1, 0] ![1, 1, 2, 2] · slicesBy_S16x384x29x29_S16x384x14x14_0s1_0s1_1s2_0s2) : (⟨S16x384x29x29, .f32⟩ : BufTy).Contents (Elt F) → (⟨S16x384x14x14, .f32⟩ : BufTy).Contents (Elt F)),
    unary main_arg7 main_v201 ((extractStridedSlice S768x384x1x1 ![0, 0, 1, 0] · slices_S768x384x3x3_S768x384x1x1_0_0_1_0) : (⟨S768x384x3x3, .f32⟩ : BufTy).Contents (Elt F) → (⟨S768x384x1x1, .f32⟩ : BufTy).Contents (Elt F)),
    reshape main_v201 main_v202 (rfl : (.f32 : EltTy) = .f32) shapeCasts_S768x384x1x1_S768x384,
    binary main_v202 main_v200 main_v203 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v203 main_v204 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v199 main_v204 main_v205 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v206 ((Host.slice S16x384x14x14 ![0, 0, 1, 1] ![1, 1, 2, 2] · slicesBy_S16x384x29x29_S16x384x14x14_0s1_0s1_1s2_1s2) : (⟨S16x384x29x29, .f32⟩ : BufTy).Contents (Elt F) → (⟨S16x384x14x14, .f32⟩ : BufTy).Contents (Elt F)),
    unary main_arg7 main_v207 ((extractStridedSlice S768x384x1x1 ![0, 0, 1, 1] · slices_S768x384x3x3_S768x384x1x1_0_0_1_1) : (⟨S768x384x3x3, .f32⟩ : BufTy).Contents (Elt F) → (⟨S768x384x1x1, .f32⟩ : BufTy).Contents (Elt F)),
    reshape main_v207 main_v208 (rfl : (.f32 : EltTy) = .f32) shapeCasts_S768x384x1x1_S768x384,
    binary main_v208 main_v206 main_v209 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v209 main_v210 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v205 main_v210 main_v211 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v212 ((Host.slice S16x384x14x14 ![0, 0, 1, 2] ![1, 1, 2, 2] · slicesBy_S16x384x29x29_S16x384x14x14_0s1_0s1_1s2_2s2) : (⟨S16x384x29x29, .f32⟩ : BufTy).Contents (Elt F) → (⟨S16x384x14x14, .f32⟩ : BufTy).Contents (Elt F)),
    unary main_arg7 main_v213 ((extractStridedSlice S768x384x1x1 ![0, 0, 1, 2] · slices_S768x384x3x3_S768x384x1x1_0_0_1_2) : (⟨S768x384x3x3, .f32⟩ : BufTy).Contents (Elt F) → (⟨S768x384x1x1, .f32⟩ : BufTy).Contents (Elt F)),
    reshape main_v213 main_v214 (rfl : (.f32 : EltTy) = .f32) shapeCasts_S768x384x1x1_S768x384,
    binary main_v214 main_v212 main_v215 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v215 main_v216 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v211 main_v216 main_v217 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v218 ((Host.slice S16x384x14x14 ![0, 0, 2, 0] ![1, 1, 2, 2] · slicesBy_S16x384x29x29_S16x384x14x14_0s1_0s1_2s2_0s2) : (⟨S16x384x29x29, .f32⟩ : BufTy).Contents (Elt F) → (⟨S16x384x14x14, .f32⟩ : BufTy).Contents (Elt F)),
    unary main_arg7 main_v219 ((extractStridedSlice S768x384x1x1 ![0, 0, 2, 0] · slices_S768x384x3x3_S768x384x1x1_0_0_2_0) : (⟨S768x384x3x3, .f32⟩ : BufTy).Contents (Elt F) → (⟨S768x384x1x1, .f32⟩ : BufTy).Contents (Elt F)),
    reshape main_v219 main_v220 (rfl : (.f32 : EltTy) = .f32) shapeCasts_S768x384x1x1_S768x384,
    binary main_v220 main_v218 main_v221 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v221 main_v222 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v217 main_v222 main_v223 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v224 ((Host.slice S16x384x14x14 ![0, 0, 2, 1] ![1, 1, 2, 2] · slicesBy_S16x384x29x29_S16x384x14x14_0s1_0s1_2s2_1s2) : (⟨S16x384x29x29, .f32⟩ : BufTy).Contents (Elt F) → (⟨S16x384x14x14, .f32⟩ : BufTy).Contents (Elt F)),
    unary main_arg7 main_v225 ((extractStridedSlice S768x384x1x1 ![0, 0, 2, 1] · slices_S768x384x3x3_S768x384x1x1_0_0_2_1) : (⟨S768x384x3x3, .f32⟩ : BufTy).Contents (Elt F) → (⟨S768x384x1x1, .f32⟩ : BufTy).Contents (Elt F)),
    reshape main_v225 main_v226 (rfl : (.f32 : EltTy) = .f32) shapeCasts_S768x384x1x1_S768x384,
    binary main_v226 main_v224 main_v227 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v227 main_v228 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v223 main_v228 main_v229 (addf : (⟨S16x768x14x14, .f32⟩ : BufTy).Contents (Elt F) → (⟨S16x768x14x14, .f32⟩ : BufTy).Contents (Elt F) → (⟨S16x768x14x14, .f32⟩ : BufTy).Contents (Elt F)),
    unary main_v180 main_v230 ((Host.slice S16x384x14x14 ![0, 0, 2, 2] ![1, 1, 2, 2] · slicesBy_S16x384x29x29_S16x384x14x14_0s1_0s1_2s2_2s2) : (⟨S16x384x29x29, .f32⟩ : BufTy).Contents (Elt F) → (⟨S16x384x14x14, .f32⟩ : BufTy).Contents (Elt F)),
    unary main_arg7 main_v231 ((extractStridedSlice S768x384x1x1 ![0, 0, 2, 2] · slices_S768x384x3x3_S768x384x1x1_0_0_2_2) : (⟨S768x384x3x3, .f32⟩ : BufTy).Contents (Elt F) → (⟨S768x384x1x1, .f32⟩ : BufTy).Contents (Elt F)) ]

/-- Operations of level 3, in printed part 4. -/
abbrev level3b : List (HloOp τ sig (Elt F)) :=
  [ reshape main_v231 main_v232 (rfl : (.f32 : EltTy) = .f32) shapeCasts_S768x384x1x1_S768x384,
    binary main_v232 main_v230 main_v233 ((fun l r => Host.dotGeneral dot_S768x384_S16x384x14x14_S768x16x14x14_1_1_0_023_n_n none l r) : (⟨S768x384, .f32⟩ : BufTy).Contents (Elt F) → (⟨S16x384x14x14, .f32⟩ : BufTy).Contents (Elt F) → (⟨S768x16x14x14, .f32⟩ : BufTy).Contents (Elt F)),
    unary main_v233 main_v234 ((transpose S16x768x14x14 [1, 0, 2, 3] · transposes_S768x16x14x14_S16x768x14x14_1_0_2_3) : (⟨S768x16x14x14, .f32⟩ : BufTy).Contents (Elt F) → (⟨S16x768x14x14, .f32⟩ : BufTy).Contents (Elt F)),
    binary main_v229 main_v234 main_v235 (addf : (⟨S16x768x14x14, .f32⟩ : BufTy).Contents (Elt F) → (⟨S16x768x14x14, .f32⟩ : BufTy).Contents (Elt F) → (⟨S16x768x14x14, .f32⟩ : BufTy).Contents (Elt F)),
    unary main_arg8 main_v236 (broadcastInDim S1x768x1x1 ![1] bcast_S768_S1x768x1x1_1 : (⟨S768, .f32⟩ : BufTy).Contents (Elt F) → (⟨S1x768x1x1, .f32⟩ : BufTy).Contents (Elt F)),
    unary main_v236 main_v237 (broadcastInDim S16x768x14x14 ![0, 1, 2, 3] bcast_S1x768x1x1_S16x768x14x14_0_1_2_3 : (⟨S1x768x1x1, .f32⟩ : BufTy).Contents (Elt F) → (⟨S16x768x14x14, .f32⟩ : BufTy).Contents (Elt F)),
    binary main_v235 main_v237 main_v238 (addf : (⟨S16x768x14x14, .f32⟩ : BufTy).Contents (Elt F) → (⟨S16x768x14x14, .f32⟩ : BufTy).Contents (Elt F) → (⟨S16x768x14x14, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x768x14x14, .f32⟩) main_call7_v0) (broadcastInDim S16x768x14x14 ![] bcast_S_S16x768x14x14),
    TRef.binary (TRef.of (T := ⟨S16x768x14x14, .f32⟩) main_v238) (TRef.of (T := ⟨S16x768x14x14, .f32⟩) main_call7_v0) (TRef.of (T := ⟨S16x768x14x14, .f32⟩) main_v239) maximumf ]

/-- Operations of the mean. -/
abbrev average : List (HloOp τ sig (Elt F)) :=
  [ nullary main_cst_6 (constant S_ .f32 0x00000000#32),
    binary main_v239 main_cst_6 main_v240 ((fun x v => Host.reduceAdd x v reducesTo_S16x768x14x14_S16x768_d2_3 h_S_) : (⟨S16x768x14x14, .f32⟩ : BufTy).Contents (Elt F) → (⟨S_, .f32⟩ : BufTy).Contents (Elt F) → (⟨S16x768, .f32⟩ : BufTy).Contents (Elt F)),
    unary main_v240 main_v241 (broadcastInDim S16x768x1x1 ![0, 1] bcast_S16x768_S16x768x1x1_0_1 : (⟨S16x768, .f32⟩ : BufTy).Contents (Elt F) → (⟨S16x768x1x1, .f32⟩ : BufTy).Contents (Elt F)),
    nullary main_cst_7 (constant S_ .f32 0x43440000#32),
    unary main_cst_7 main_v242 (broadcastInDim S16x768x1x1 ![] bcast_S_S16x768x1x1 : (⟨S_, .f32⟩ : BufTy).Contents (Elt F) → (⟨S16x768x1x1, .f32⟩ : BufTy).Contents (Elt F)),
    binary main_v241 main_v242 main_v243 (Host.divf : (⟨S16x768x1x1, .f32⟩ : BufTy).Contents (Elt F) → (⟨S16x768x1x1, .f32⟩ : BufTy).Contents (Elt F) → (⟨S16x768x1x1, .f32⟩ : BufTy).Contents (Elt F)),
    reshape main_v243 main_v244 (rfl : (.f32 : EltTy) = .f32) shapeCasts_S16x768x1x1_S16x768 ]

/-- Operations of the distances to the codebook. -/
abbrev distances : List (HloOp τ sig (Elt F)) :=
  [ binary main_v244 main_v244 main_v245 (mulf : (⟨S16x768, .f32⟩ : BufTy).Contents (Elt F) → (⟨S16x768, .f32⟩ : BufTy).Contents (Elt F) → (⟨S16x768, .f32⟩ : BufTy).Contents (Elt F)),
    nullary main_cst_8 (constant S_ .f32 0x00000000#32),
    binary main_v245 main_cst_8 main_v246 ((fun x v => Host.reduceAdd x v reducesTo_S16x768_S16_d1 h_S_) : (⟨S16x768, .f32⟩ : BufTy).Contents (Elt F) → (⟨S_, .f32⟩ : BufTy).Contents (Elt F) → (⟨S16, .f32⟩ : BufTy).Contents (Elt F)),
    unary main_v246 main_v247 (broadcastInDim S16x1 ![0] bcast_S16_S16x1_0 : (⟨S16, .f32⟩ : BufTy).Contents (Elt F) → (⟨S16x1, .f32⟩ : BufTy).Contents (Elt F)),
    nullary main_cst_9 (constant S_ .f32 0x40000000#32),
    unary main_cst_9 main_v248 (broadcastInDim S16x768 ![] bcast_S_S16x768 : (⟨S_, .f32⟩ : BufTy).Contents (Elt F) → (⟨S16x768, .f32⟩ : BufTy).Contents (Elt F)),
    binary main_v248 main_v244 main_v249 (mulf : (⟨S16x768, .f32⟩ : BufTy).Contents (Elt F) → (⟨S16x768, .f32⟩ : BufTy).Contents (Elt F) → (⟨S16x768, .f32⟩ : BufTy).Contents (Elt F)),
    unary main_arg9 main_v250 ((transpose S768x1024 [1, 0] · transposes_S1024x768_S768x1024_1_0) : (⟨S1024x768, .f32⟩ : BufTy).Contents (Elt F) → (⟨S768x1024, .f32⟩ : BufTy).Contents (Elt F)),
    binary main_v249 main_v250 main_v251 ((fun l r => Host.dotGeneral dot_S16x768_S768x1024_S16x1024_1_0_0_1_n_n none l r) : (⟨S16x768, .f32⟩ : BufTy).Contents (Elt F) → (⟨S768x1024, .f32⟩ : BufTy).Contents (Elt F) → (⟨S16x1024, .f32⟩ : BufTy).Contents (Elt F)),
    unary main_v247 main_v252 (broadcastInDim S16x1024 ![0, 1] bcast_S16x1_S16x1024_0_1 : (⟨S16x1, .f32⟩ : BufTy).Contents (Elt F) → (⟨S16x1024, .f32⟩ : BufTy).Contents (Elt F)),
    binary main_v252 main_v251 main_v253 (subf : (⟨S16x1024, .f32⟩ : BufTy).Contents (Elt F) → (⟨S16x1024, .f32⟩ : BufTy).Contents (Elt F) → (⟨S16x1024, .f32⟩ : BufTy).Contents (Elt F)),
    binary main_arg9 main_arg9 main_v254 (mulf : (⟨S1024x768, .f32⟩ : BufTy).Contents (Elt F) → (⟨S1024x768, .f32⟩ : BufTy).Contents (Elt F) → (⟨S1024x768, .f32⟩ : BufTy).Contents (Elt F)),
    nullary main_cst_10 (constant S_ .f32 0x00000000#32),
    binary main_v254 main_cst_10 main_v255 ((fun x v => Host.reduceAdd x v reducesTo_S1024x768_S1024_d1 h_S_) : (⟨S1024x768, .f32⟩ : BufTy).Contents (Elt F) → (⟨S_, .f32⟩ : BufTy).Contents (Elt F) → (⟨S1024, .f32⟩ : BufTy).Contents (Elt F)),
    unary main_v255 main_v256 (broadcastInDim S1x1024 ![1] bcast_S1024_S1x1024_1 : (⟨S1024, .f32⟩ : BufTy).Contents (Elt F) → (⟨S1x1024, .f32⟩ : BufTy).Contents (Elt F)),
    unary main_v256 main_v257 (broadcastInDim S16x1024 ![0, 1] bcast_S1x1024_S16x1024_0_1 : (⟨S1x1024, .f32⟩ : BufTy).Contents (Elt F) → (⟨S16x1024, .f32⟩ : BufTy).Contents (Elt F)),
    binary main_v253 main_v257 main_v258 (addf : (⟨S16x1024, .f32⟩ : BufTy).Contents (Elt F) → (⟨S16x1024, .f32⟩ : BufTy).Contents (Elt F) → (⟨S16x1024, .f32⟩ : BufTy).Contents (Elt F)) ]

/-- Operations of the least distance. -/
abbrev least : List (HloOp τ sig (Elt F)) :=
  [ TRef.nullary (TRef.of (T := ⟨S16x1024, .i32⟩) main_call8_v0) (iotaInDim S16x1024 32 1),
    TRef.nullary (TRef.of (T := ⟨S_, .f32⟩) main_call8_cst) (constant S_ .f32 0x7F800000#32),
    TRef.nullary (TRef.of (T := ⟨S_, .i32⟩) main_call8_c) (constantI S_ 32 0#32),
    TRef.quaternary (TRef.of (T := ⟨S16x1024, .f32⟩) main_v258) (TRef.of (T := ⟨S16x1024, .i32⟩) main_call8_v0) (TRef.of (T := ⟨S_, .f32⟩) main_call8_cst) (TRef.of (T := ⟨S_, .i32⟩) main_call8_c) (TRef.of (T := ⟨S16, .f32⟩) main_call8_v1_0) (fun x y u v j => (Host.argReduce reducer_argmin_f32_i32 x y u v reducesTo_S16x1024_S16_d1 h_S_ j).1),
    TRef.quaternary (TRef.of (T := ⟨S16x1024, .f32⟩) main_v258) (TRef.of (T := ⟨S16x1024, .i32⟩) main_call8_v0) (TRef.of (T := ⟨S_, .f32⟩) main_call8_cst) (TRef.of (T := ⟨S_, .i32⟩) main_call8_c) (TRef.of (T := ⟨S16, .i32⟩) main_v259) (fun x y u v j => (Host.argReduce reducer_argmin_f32_i32 x y u v reducesTo_S16x1024_S16_d1 h_S_ j).2) ]

/-- Operations that fetch the row and return it. -/
abbrev fetch : List (HloOp τ sig (Elt F)) :=
  [ TRef.nullary (TRef.of (T := ⟨S_, .i32⟩) main_call9_c) (constantI S_ 32 0#32),
    TRef.unary (TRef.of (T := ⟨S_, .i32⟩) main_call9_c) (TRef.of (T := ⟨S16, .i32⟩) main_call9_v0) (broadcastInDim S16 ![] bcast_S_S16),
    TRef.binary (TRef.of (T := ⟨S16, .i32⟩) main_v259) (TRef.of (T := ⟨S16, .i32⟩) main_call9_v0) (TRef.of (T := ⟨S16, .i1⟩) main_call9_v1) (cmpi .slt),
    TRef.nullary (TRef.of (T := ⟨S_, .i32⟩) main_call9_c_0) (constantI S_ 32 1024#32),
    TRef.unary (TRef.of (T := ⟨S_, .i32⟩) main_call9_c_0) (TRef.of (T := ⟨S16, .i32⟩) main_call9_v2) (broadcastInDim S16 ![] bcast_S_S16),
    TRef.binary (TRef.of (T := ⟨S16, .i32⟩) main_v259) (TRef.of (T := ⟨S16, .i32⟩) main_call9_v2) (TRef.of (T := ⟨S16, .i32⟩) main_call9_v3) addi,
    TRef.ternary (TRef.of (T := ⟨S16, .i1⟩) main_call9_v1) (TRef.of (T := ⟨S16, .i32⟩) main_call9_v3) (TRef.of (T := ⟨S16, .i32⟩) main_v259) (TRef.of (T := ⟨S16, .i32⟩) main_call9_v4) select,
    TRef.unary (TRef.of (T := ⟨S16, .i32⟩) main_call9_v4) (TRef.of (T := ⟨S16x1, .i32⟩) main_call9_v5) (broadcastInDim S16x1 ![0] bcast_S16_S16x1_0),
    TRef.nullary (TRef.of (T := ⟨S1, .i32⟩) main_call9_c_1) (constantI S1 32 1023#32),
    TRef.nullary (TRef.of (T := ⟨S_, .i32⟩) main_call9_c_2) (constantI S_ 32 0#32),
    TRef.unary (TRef.of (T := ⟨S_, .i32⟩) main_call9_c_2) (TRef.of (T := ⟨S16x1, .i32⟩) main_call9_v6) (broadcastInDim S16x1 ![] bcast_S_S16x1),
    TRef.binary (TRef.of (T := ⟨S16x1, .i32⟩) main_call9_v5) (TRef.of (T := ⟨S16x1, .i32⟩) main_call9_v6) (TRef.of (T := ⟨S16x1, .i1⟩) main_call9_v7) (cmpi .sge),
    TRef.unary (TRef.of (T := ⟨S1, .i32⟩) main_call9_c_1) (TRef.of (T := ⟨S1x1, .i32⟩) main_call9_v8) (broadcastInDim S1x1 ![1] bcast_S1_S1x1_1),
    TRef.unary (TRef.of (T := ⟨S1x1, .i32⟩) main_call9_v8) (TRef.of (T := ⟨S16x1, .i32⟩) main_call9_v9) (broadcastInDim S16x1 ![0, 1] bcast_S1x1_S16x1_0_1),
    TRef.binary (TRef.of (T := ⟨S16x1, .i32⟩) main_call9_v5) (TRef.of (T := ⟨S16x1, .i32⟩) main_call9_v9) (TRef.of (T := ⟨S16x1, .i1⟩) main_call9_v10) (cmpi .sle),
    TRef.binary (TRef.of (T := ⟨S16x1, .i1⟩) main_call9_v7) (TRef.of (T := ⟨S16x1, .i1⟩) main_call9_v10) (TRef.of (T := ⟨S16x1, .i1⟩) main_call9_v11) andi,
    TRef.nullary (TRef.of (T := ⟨S_, .i1⟩) main_call9_c_3) (constantI S_ 1 1#1),
    TRef.binary (TRef.of (T := ⟨S16x1, .i1⟩) main_call9_v11) (TRef.of (T := ⟨S_, .i1⟩) main_call9_c_3) (TRef.of (T := ⟨S16, .i1⟩) main_call9_v12) (fun x v => Host.reduce IntOp.andi x v reducesTo_S16x1_S16_d1 h_S_),
    TRef.binary (TRef.of (T := ⟨S1024x768, .f32⟩) main_arg9) (TRef.of (T := ⟨S16x1, .i32⟩) main_call9_v5) (TRef.of (T := ⟨S16x768, .f32⟩) main_call9_v13) (fun x i => Host.gather gather_S1024x768_S16x1_S16x768_1_0_n_n_0_1_1768 x i),
    TRef.unary (TRef.of (T := ⟨S16, .i1⟩) main_call9_v12) (TRef.of (T := ⟨S16x768, .i1⟩) main_call9_v14) (broadcastInDim S16x768 ![0] bcast_S16_S16x768_0),
    TRef.nullary (TRef.of (T := ⟨S_, .f32⟩) main_call9_cst) (constant S_ .f32 0x7FC00000#32),
    TRef.unary (TRef.of (T := ⟨S_, .f32⟩) main_call9_cst) (TRef.of (T := ⟨S16x768, .f32⟩) main_call9_v15) (broadcastInDim S16x768 ![] bcast_S_S16x768),
    TRef.ternary (TRef.of (T := ⟨S16x768, .i1⟩) main_call9_v14) (TRef.of (T := ⟨S16x768, .f32⟩) main_call9_v13) (TRef.of (T := ⟨S16x768, .f32⟩) main_call9_v15) (TRef.of (T := ⟨S16x768, .f32⟩) main_v260) select,
    reshape main_v260 main_v261 (rfl : (.f32 : EltTy) = .f32) shapeCasts_S16x768_S16x768x1x1,
    binary main_v261 main_v243 main_v262 (subf : (⟨S16x768x1x1, .f32⟩ : BufTy).Contents (Elt F) → (⟨S16x768x1x1, .f32⟩ : BufTy).Contents (Elt F) → (⟨S16x768x1x1, .f32⟩ : BufTy).Contents (Elt F)),
    binary main_v243 main_v262 main_v263 (addf : (⟨S16x768x1x1, .f32⟩ : BufTy).Contents (Elt F) → (⟨S16x768x1x1, .f32⟩ : BufTy).Contents (Elt F) → (⟨S16x768x1x1, .f32⟩ : BufTy).Contents (Elt F)) ]

/-- The mean and the codebook search. -/
abbrev search : List (HloOp τ sig (Elt F)) := average ++ (distances ++ (least ++ fetch))

/-- Level 0. -/
abbrev level0 : List (HloOp τ sig (Elt F)) := level0a ++ level0b

/-- Level 1. -/
abbrev level1 : List (HloOp τ sig (Elt F)) := level1a ++ level1b

/-- Level 2. -/
abbrev level2 : List (HloOp τ sig (Elt F)) := level2a ++ level2b

/-- Level 3. -/
abbrev level3 : List (HloOp τ sig (Elt F)) := level3a ++ level3b

theorem part0_eq (c : Dev nD) : main_part0 (F := F) c = seq (level0a) := rfl
theorem part1_eq (c : Dev nD) : main_part1 (F := F) c = seq (level0b ++ level1a) := rfl
theorem part2_eq (c : Dev nD) : main_part2 (F := F) c = seq (level1b ++ level2a) := rfl
theorem part3_eq (c : Dev nD) : main_part3 (F := F) c = seq (level2b ++ level3a) := rfl
theorem part4_eq (c : Dev nD) : main_part4 (F := F) c = seq (level3b ++ search) := rfl

/-- The whole line. -/
abbrev ops : List (HloOp τ sig (Elt F)) := level0 ++ (level1 ++ (level2 ++ (level3 ++ search)))

theorem main_eq (c : Dev nD) : main (F := F) c = seq ops := by
  have h : (ops : List (HloOp τ sig (Elt F))) = (level0a) ++ ((level0b ++ level1a) ++ ((level1b ++ level2a) ++ ((level2b ++ level3a) ++ (level3b ++ search)))) := by
    simp only [ops, level0, level1, level2, level3, List.append_assoc]
  rw [h]
  simp only [seq_append, ← part0_eq c, ← part1_eq c, ← part2_eq c, ← part3_eq c, ← part4_eq c]
  rfl

end Cert.ReferenceIdeal.Line

end
-- ==== Proof.Ref.Run.lean ====
/-
  The reference's run: every buffer ends at what the line of operations leaves there, and no operation writes an argument.
-/
module

public import proofs.«01_k».proof.Proof.Ref.Ops
public import Idealize.ShloMosaic.Lib.StableHlo.RunRead
public import Idealize.ShloMosaic.Lib.Quiescent

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The argument arrays. -/
abbrev argRefs : List (Ref sig .tc) := [main_arg0, main_arg1, main_arg2, main_arg3, main_arg4, main_arg5, main_arg6, main_arg7, main_arg8, main_arg9]

theorem forall_args {p : Ref sig .tc → Prop} (h0 : p main_arg0) (h1 : p main_arg1) (h2 : p main_arg2) (h3 : p main_arg3) (h4 : p main_arg4)
    (h5 : p main_arg5) (h6 : p main_arg6) (h7 : p main_arg7) (h8 : p main_arg8) (h9 : p main_arg9) : ∀ r ∈ argRefs, p r := by
  intro r hr
  simp only [argRefs, List.mem_cons, List.not_mem_nil, or_false] at hr
  rcases hr with rfl | rfl | rfl | rfl | rfl | rfl | rfl | rfl | rfl | rfl <;> assumption

set_option maxHeartbeats 4000000

theorem level0_args (V : Valuation τ sig (Elt F)) : ∀ r ∈ argRefs, after level0 V (Proc.devRef .tc r) = V (Proc.devRef .tc r) := by
  apply forall_args <;> after_reads_simp
theorem level1_args (V : Valuation τ sig (Elt F)) : ∀ r ∈ argRefs, after level1 V (Proc.devRef .tc r) = V (Proc.devRef .tc r) := by
  apply forall_args <;> after_reads_simp
theorem level2_args (V : Valuation τ sig (Elt F)) : ∀ r ∈ argRefs, after level2 V (Proc.devRef .tc r) = V (Proc.devRef .tc r) := by
  apply forall_args <;> after_reads_simp
theorem level3_args (V : Valuation τ sig (Elt F)) : ∀ r ∈ argRefs, after level3 V (Proc.devRef .tc r) = V (Proc.devRef .tc r) := by
  apply forall_args <;> after_reads_simp
theorem search_args (V : Valuation τ sig (Elt F)) : ∀ r ∈ argRefs, after search V (Proc.devRef .tc r) = V (Proc.devRef .tc r) := by
  apply forall_args <;> after_reads_simp

/-- The contents after each level. -/
abbrev V1 (V : Valuation τ sig (Elt F)) : Valuation τ sig (Elt F) := after level0 V
abbrev V2 (V : Valuation τ sig (Elt F)) : Valuation τ sig (Elt F) := after level1 (V1 V)
abbrev V3 (V : Valuation τ sig (Elt F)) : Valuation τ sig (Elt F) := after level2 (V2 V)
abbrev V4 (V : Valuation τ sig (Elt F)) : Valuation τ sig (Elt F) := after level3 (V3 V)

theorem after_two (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (V : Valuation τ sig (Elt F)) : after ops V = after search (V4 V) := by
  unfold ops; rw [after_two, after_two, after_two, after_two]

theorem ops_args (V : Valuation τ sig (Elt F)) (r : Ref sig .tc) (hr : r ∈ argRefs) : after ops V (Proc.devRef .tc r) = V (Proc.devRef .tc r) := by
  rw [after_ops, search_args _ r hr]
  exact (level3_args _ r hr).trans ((level2_args _ r hr).trans ((level1_args _ r hr).trans (level0_args _ r hr)))

theorem ops_sub : (ops : List (HloOp τ sig (Elt F))).Forall fun op => op.bufs ⊆ tcRefs τ sig := by
  simp only [ops, List.forall_append]
  refine ⟨⟨?_, ?_⟩, ⟨?_, ?_⟩, ⟨?_, ?_⟩, ⟨?_, ?_⟩, ?_, ?_, ?_, ?_⟩ <;> simp

theorem ops_fresh : (ops : List (HloOp τ sig (Elt F))).Forall fun op => op.fresh = ∅ := by
  simp only [ops, List.forall_append]
  refine ⟨⟨?_, ?_⟩, ⟨?_, ?_⟩, ⟨?_, ?_⟩, ⟨?_, ?_⟩, ?_, ?_, ?_, ?_⟩ <;> first | exact forall_fresh_of_map (by rfl) | exact forall_fresh_of_map rfl

theorem scopedRefs_eq : (Finset.univ.filter fun b : Ref sig .tc => b.isScoped) = ∅ := by decide
theorem scopedSems_eq : (Finset.univ.filter fun sm : SemLoc sig => sm.isScoped .tc) = ∅ := by decide

/-- The run. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => List.forall_iff_forall_mem.mp ops_fresh)

/-- The run with the arguments and the counters: the result's buffer at the line's contents, the arguments as launched, every counter at zero. -/
theorem run_full (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v263) = after ops (launchContents m c) (Proc.devRef .tc main_v263))
      ∧ ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => h c main_v263, fun c => by
    have a := fun b hb => (h c b).trans (ops_args (launchContents m c) b hb)
    exact ⟨a main_arg0 (by simp), a main_arg1 (by simp), a main_arg2 (by simp), a main_arg3 (by simp), a main_arg4 (by simp),
      a main_arg5 (by simp), a main_arg6 (by simp), a main_arg7 (by simp), a main_arg8 (by simp), a main_arg9 (by simp)⟩,
    sem_eq_zero_of_no_sems (by decide) r.2⟩) (run m ρ)

end Cert.ReferenceIdeal.Line

end
-- ==== Proof.Conv.Spec.lean ====
/-
  The mathematics of one level, free of both programs: an array read at natural coordinates (zero outside its extents),
  the 3 x 3 convolution of stride 2 as nine sums over the channels, and a level's array as such a function.
-/
module

public import Idealize.ShloMosaic.Lib.Pointwise

@[expose] public section

noncomputable section

namespace Cert.Conv

open Idealize.ShloMosaic

/-- An array of rank 4 at natural coordinates, zero outside. -/
def at4 {a b c d : ℕ} (A : (⟨4, ![a, b, c, d]⟩ : Shape).Idx → EReal) (i j k l : ℕ) : EReal :=
  if h : i < a ∧ j < b ∧ k < c ∧ l < d then A (ix4 ⟨i, h.1⟩ ⟨j, h.2.1⟩ ⟨k, h.2.2.1⟩ ⟨l, h.2.2.2⟩) else 0

/-- An array of rank 3 at natural coordinates, zero outside. -/
def at3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

/-- An array of rank 2 at natural coordinates, zero outside. -/
def at2 {a b : ℕ} (A : (⟨2, ![a, b]⟩ : Shape).Idx → EReal) (i j : ℕ) : EReal :=
  if h : i < a ∧ j < b then A (ix2 ⟨i, h.1⟩ ⟨j, h.2⟩) else 0

/-- An array of rank 1 at natural coordinates, zero outside. -/
def at1 {a : ℕ} (A : (⟨1, ![a]⟩ : Shape).Idx → EReal) (i : ℕ) : EReal :=
  if h : i < a then A (ix1 ⟨i, h⟩) else 0

theorem at4_ix {a b c d : ℕ} (A : (⟨4, ![a, b, c, d]⟩ : Shape).Idx → EReal) (i : Fin a) (j : Fin b) (k : Fin c) (l : Fin d) :
    A (ix4 i j k l) = at4 A i j k l := by
  unfold at4; rw [dif_pos ⟨i.2, j.2, k.2, l.2⟩]
theorem at3_ix {a b c : ℕ} (A : (⟨3, ![a, b, c]⟩ : Shape).Idx → EReal) (i : Fin a) (j : Fin b) (k : Fin c) :
    A (ix3 i j k) = at3 A i j k := by
  unfold at3; rw [dif_pos ⟨i.2, j.2, k.2⟩]
theorem at2_ix {a b : ℕ} (A : (⟨2, ![a, b]⟩ : Shape).Idx → EReal) (i : Fin a) (j : Fin b) :
    A (ix2 i j) = at2 A i j := by
  unfold at2; rw [dif_pos ⟨i.2, j.2⟩]
theorem at1_ix {a : ℕ} (A : (⟨1, ![a]⟩ : Shape).Idx → EReal) (i : Fin a) :
    A (ix1 i) = at1 A i := by
  unfold at1; rw [dif_pos i.2]
theorem at4_out {a b c d : ℕ} (A : (⟨4, ![a, b, c, d]⟩ : Shape).Idx → EReal) (i j k l : ℕ)
    (h : ¬(i < a ∧ j < b ∧ k < c ∧ l < d)) : at4 A i j k l = 0 := by
  unfold at4; rw [dif_neg h]

/-- Images and weights at natural coordinates. -/
abbrev Nat4 := ℕ → ℕ → ℕ → ℕ → EReal

/-- One tap: the sum over the channels at row `2 r + ky` and column `2 c + kx`. -/
def tap (X w : Nat4) (C b o r c ky kx : ℕ) : EReal :=
  ∑ ch : Fin C, X b ch (2 * r + ky) (2 * c + kx) * w o ch ky kx

/-- The convolution of stride 2 at one output position, with its bias and the maximum with zero, taps in row order. -/
def conv (X w : Nat4) (β : ℕ → EReal) (C b o r c : ℕ) : EReal :=
  max (tap X w C b o r c 0 0 + tap X w C b o r c 0 1 + tap X w C b o r c 0 2
    + tap X w C b o r c 1 0 + tap X w C b o r c 1 1 + tap X w C b o r c 1 2
    + tap X w C b o r c 2 0 + tap X w C b o r c 2 1 + tap X w C b o r c 2 2 + β o) 0

/-- A level's array as a function of naturals, zero outside `16 × O × H × H`. -/
def level (X w : Nat4) (β : ℕ → EReal) (C O H : ℕ) : Nat4 := fun b o r c =>
  if b < 16 ∧ o < O ∧ r < H ∧ c < H then conv X w β C b o r c else 0

/-- The convolution from its nine taps and its bias. -/
theorem conv_of_taps {X w : Nat4} {β : ℕ → EReal} {C b o r c : ℕ} {t0 t1 t2 t3 t4 t5 t6 t7 t8 v : EReal}
    (h0 : t0 = tap X w C b o r c 0 0) (h1 : t1 = tap X w C b o r c 0 1) (h2 : t2 = tap X w C b o r c 0 2)
    (h3 : t3 = tap X w C b o r c 1 0) (h4 : t4 = tap X w C b o r c 1 1) (h5 : t5 = tap X w C b o r c 1 2)
    (h6 : t6 = tap X w C b o r c 2 0) (h7 : t7 = tap X w C b o r c 2 1) (h8 : t8 = tap X w C b o r c 2 2) (hv : v = β o) :
    max (t0 + t1 + t2 + t3 + t4 + t5 + t6 + t7 + t8 + v) 0 = conv X w β C b o r c := by
  subst h0 h1 h2 h3 h4 h5 h6 h7 h8 hv; rfl

/-- A tap over an image padded at its high end, weights on the left. -/
theorem padded_tap {B C H O : ℕ} (X : (⟨4, ![B, C, H, H]⟩ : Shape).Idx → EReal) (w : (⟨4, ![O, C, 3, 3]⟩ : Shape).Idx → EReal)
    (b : Fin B) (o : Fin O) (r c R S ky kx : ℕ) (y x : Fin 3) (z : EReal) (hz : z = 0) (hy : (y : ℕ) = ky) (hx : (x : ℕ) = kx)
    (hR : R = 2 * r + ky) (hS : S = 2 * c + kx) :
    (∑ ch : Fin C, w (ix4 o ch y x) * if h : R < H ∧ S < H then X (ix4 b ch ⟨R, h.1⟩ ⟨S, h.2⟩) else z)
      = tap (at4 X) (at4 w) C b o r c ky kx := by
  unfold tap
  refine Finset.sum_congr rfl fun ch _ => ?_
  rw [at4_ix w, hy, hx, ← hR, ← hS, mul_comm, hz]
  refine congrArg (· * _) ?_
  by_cases h : R < H ∧ S < H
  · rw [dif_pos h]; exact at4_ix X b ch ⟨R, h.1⟩ ⟨S, h.2⟩
  · rw [dif_neg h, at4_out]; rintro ⟨_, _, h1, h2⟩; exact h ⟨h1, h2⟩

/-- The phase `pid` of an image, flattened with row length `w1`. -/
def phase (X : Nat4) (w1 b pid n ch : ℕ) : EReal :=
  X b ch (2 * (n / w1) + pid / 2) (2 * (n % w1) + pid % 2)

/-- One tap of the flattened convolution: phase `pid`, shift `s`. -/
def ftap (P w : Nat4) (C b o n pid s ky kx : ℕ) : EReal :=
  ∑ ch : Fin C, P b pid (n + s) ch * w o ch ky kx

/-- The flattened convolution at row `n`. -/
def fconv (P w : Nat4) (β : ℕ → EReal) (C w1 b o n : ℕ) : EReal :=
  max (ftap P w C b o n 0 0 0 0 + ftap P w C b o n 1 0 0 1 + ftap P w C b o n 0 1 0 2
    + ftap P w C b o n 2 0 1 0 + ftap P w C b o n 3 0 1 1 + ftap P w C b o n 2 1 1 2
    + ftap P w C b o n 0 w1 2 0 + ftap P w C b o n 1 w1 2 1 + ftap P w C b o n 0 (w1 + 1) 2 2 + β o) 0

/-- The flattened convolution from its nine taps and its bias. -/
theorem fconv_of_taps {P w : Nat4} {β : ℕ → EReal} {C w1 b o n : ℕ} {t0 t1 t2 t3 t4 t5 t6 t7 t8 v : EReal}
    (h0 : t0 = ftap P w C b o n 0 0 0 0) (h1 : t1 = ftap P w C b o n 1 0 0 1) (h2 : t2 = ftap P w C b o n 0 1 0 2)
    (h3 : t3 = ftap P w C b o n 2 0 1 0) (h4 : t4 = ftap P w C b o n 3 0 1 1) (h5 : t5 = ftap P w C b o n 2 1 1 2)
    (h6 : t6 = ftap P w C b o n 0 w1 2 0) (h7 : t7 = ftap P w C b o n 1 w1 2 1)
    (h8 : t8 = ftap P w C b o n 0 (w1 + 1) 2 2) (hv : v = β o) :
    max (t0 + t1 + t2 + t3 + t4 + t5 + t6 + t7 + t8 + v) 0 = fconv P w β C w1 b o n := by
  subst h0 h1 h2 h3 h4 h5 h6 h7 h8 hv; rfl

/-- Nine weight matrices as a function of naturals. -/
def taps9 {C O : ℕ} (w : (⟨3, ![9, C, O]⟩ : Shape).Idx → EReal) : Nat4 := fun o ch ky kx => at3 w (3 * ky + kx) ch o

/-- A tap of the flattened convolution over phases is the tap at the position that the row stands for. -/
theorem ftap_phase (X w : Nat4) (C w1 b o r c pid ro co ky kx : ℕ) (hc : c + co < w1)
    (hky : ky = 2 * ro + pid / 2) (hkx : kx = 2 * co + pid % 2) :
    ftap (phase X w1) w C b o (r * w1 + c) pid (ro * w1 + co) ky kx = tap X w C b o r c ky kx := by
  unfold ftap tap phase
  refine Finset.sum_congr rfl fun ch _ => ?_
  have e : r * w1 + c + (ro * w1 + co) = (c + co) + w1 * (r + ro) := by ring
  have hw : 0 < w1 := by omega
  rw [e, Nat.add_mul_div_left _ _ hw, Nat.add_mul_mod_self_left, Nat.div_eq_of_lt hc, Nat.mod_eq_of_lt hc, hky, hkx]
  congr 2 <;> ring

/-- The flattened convolution over phases, at row `r w1 + c` with `c` inside, is the convolution. -/
theorem fconv_phase (X w : Nat4) (β : ℕ → EReal) (C w1 b o r c : ℕ) (hc : c + 1 < w1) :
    fconv (phase X w1) w β C w1 b o (r * w1 + c) = conv X w β C b o r c := by
  unfold fconv conv
  have h := fun pid ro co ky kx h1 h2 h3 => ftap_phase X w C w1 b o r c pid ro co ky kx h1 h2 h3
  have h00 := h 0 0 0 0 0 (by omega) rfl rfl
  have h01 := h 1 0 0 0 1 (by omega) rfl rfl
  have h02 := h 0 0 1 0 2 (by omega) rfl rfl
  have h10 := h 2 0 0 1 0 (by omega) rfl rfl
  have h11 := h 3 0 0 1 1 (by omega) rfl rfl
  have h12 := h 2 0 1 1 2 (by omega) rfl rfl
  have h20 := h 0 1 0 2 0 (by omega) rfl rfl
  have h21 := h 1 1 0 2 1 (by omega) rfl rfl
  have h22 := h 0 1 1 2 2 (by omega) rfl rfl
  simp only [Nat.zero_mul, Nat.one_mul, Nat.zero_add, Nat.add_zero] at h00 h01 h02 h10 h11 h12 h20 h21 h22
  rw [h00, h01, h02, h10, h11, h12, h20, h21, h22]

/-- A level's array kept as rows of length `w` (positions `r w + c`, channels last), as a function of image, channel, row
    and column, zero outside `H × H`. -/
def unflat {M C : ℕ} (A : (⟨3, ![16, M, C]⟩ : Shape).Idx → EReal) (w H : ℕ) : Nat4 := fun b ch r c =>
  if r < H ∧ c < H then at3 A b (r * w + c) ch else 0

/-- A phase of a padded, flattened array, read off the rows of the level below. -/
theorem phase_of_rows {M C : ℕ} (A : (⟨3, ![16, M, C]⟩ : Shape).Idx → EReal) (WW W H w p n R : ℕ) (z : EReal)
    (b : Fin 16) (ch : Fin C) (hM : n < WW → n / W < H ∧ n % W < H → R < M) (hz : z = 0) (hW : W = H + 1) (hWW : WW = W * W)
    (hp : p < 4) (hR : R = (p / 2 + 2 * (n / W)) * w + (p % 2 + 2 * (n % W))) :
    (if h : n < WW then if h1 : n / W < H ∧ n % W < H then A (ix3 b ⟨R, hM h h1⟩ ch) else z else z)
      = phase (unflat A w (2 * H)) W b p n ch := by
  unfold phase unflat
  subst hz
  have hp2 : p / 2 < 2 := by omega
  have hq2 : p % 2 < 2 := by omega
  by_cases h : n < WW
  · rw [dif_pos h]
    by_cases h1 : n / W < H ∧ n % W < H
    · rw [dif_pos h1, if_pos (by omega), at3_ix A]
      show at3 A b R ch = _
      rw [hR, Nat.add_comm (p / 2), Nat.add_comm (p % 2)]
    · rw [dif_neg h1, if_neg (by omega)]
  · rw [dif_neg h, if_neg]
    rintro ⟨h1, -⟩
    have hn : n / W < W := by omega
    exact h (hWW ▸ (Nat.div_lt_iff_lt_mul (by omega)).mp hn)

/-- The same for the images themselves, an array of rank 4 with its channels in front. -/
theorem phase_of_images {C : ℕ} (X : (⟨4, ![16, C, 224, 224]⟩ : Shape).Idx → EReal) (p n R S : ℕ) (z : EReal)
    (b : Fin 16) (ch : Fin C) (hR' : n < 12769 → n / 113 < 112 ∧ n % 113 < 112 → R < 224)
    (hS' : n < 12769 → n / 113 < 112 ∧ n % 113 < 112 → S < 224) (hz : z = 0)
    (hp : p < 4) (hR : R = p / 2 + 2 * (n / 113)) (hS : S = p % 2 + 2 * (n % 113)) :
    (if h : n < 12769 then if h1 : n / 113 < 112 ∧ n % 113 < 112 then X (ix4 b ch ⟨R, hR' h h1⟩ ⟨S, hS' h h1⟩) else z else z)
      = phase (at4 X) 113 b p n ch := by
  unfold phase
  subst hz
  by_cases h : n < 12769
  · rw [dif_pos h]
    by_cases h1 : n / 113 < 112 ∧ n % 113 < 112
    · rw [dif_pos h1, at4_ix X]
      show at4 X b ch R S = _
      rw [hR, hS, Nat.add_comm (p / 2), Nat.add_comm (p % 2)]
    · rw [dif_neg h1, at4_out]; omega
  · rw [dif_neg h, at4_out]
    omega

/-- One product of a window of rows by a weight matrix is one tap: `A` holds image `b` of the phases, `W` the nine matrices. -/
theorem product {mp C O : ℕ} {A : (⟨4, ![1, 4, mp, C]⟩ : Shape).Idx → EReal} {W : (⟨3, ![9, C, O]⟩ : Shape).Idx → EReal}
    {P w : Nat4} {b : ℕ} (hA : ∀ (a : Fin 1) (p : Fin 4) (n : Fin mp) (ch : Fin C), A (ix4 a p n ch) = P b p n ch)
    (hW : ∀ (q : Fin 9) (ch : Fin C) (o : Fin O) (ky kx : ℕ), (q : ℕ) = 3 * ky + kx → W (ix3 q ch o) = w o ch ky kx)
    {o n s pid ky kx : ℕ} {a : Fin 1} {p : Fin 4} {m : Fin mp} {q : Fin 9} {z : Fin O} {g : Fin C → Fin C}
    (hg : ∀ x, (g x : ℕ) = x) (hp : (p : ℕ) = pid) (hm : (m : ℕ) = n + s) (hq : (q : ℕ) = 3 * ky + kx) (hz : (z : ℕ) = o) :
    (∑ x : Fin C, A (ix4 a p m (g x)) * W (ix3 q x z)) = ftap P w C b o n pid s ky kx := by
  unfold ftap
  refine Finset.sum_congr rfl fun x _ => ?_
  rw [hA, hW q x z ky kx hq, hg, hp, hm, hz]

theorem mul_congr {a b c d : EReal} (h : a = c) (h' : b = d) : a * b = c * d := by
  rw [h, h']

theorem read_congr {P : Nat4} {b p n ch p' n' ch' : ℕ} (hp : p = p') (hn : n = n') (hc : ch = ch') : P b p n ch = P b p' n' ch' := by
  rw [hp, hn, hc]

/-- Nine matrices read at a tap. -/
theorem taps9_ix {C O : ℕ} (w : (⟨3, ![9, C, O]⟩ : Shape).Idx → EReal) (q : Fin 9) (ch : Fin C) (o : Fin O) (ky kx : ℕ)
    (h : (q : ℕ) = 3 * ky + kx) : w (ix3 q ch o) = taps9 w o ch ky kx := by
  unfold taps9
  rw [← h]
  exact at3_ix w q ch o

end Cert.Conv

end
-- ==== Proof.Conv.Search.lean ====
/-
  The search for the least distance: the first index at which a family of extended reals is least, found by a least value, a
  least word and a one-hot row, and found by a fold over pairs; and the sum of a masked window.
-/
module

public import proofs.«01_k».proof.Proof.Conv.Spec
public import Idealize.ShloMosaic.Lib.WordArith

@[expose] public section

noncomputable section

namespace Cert.Conv

open Idealize.ShloMosaic Idealize.ShloMosaic.WordArith

/-- `i` is the first index at which `d` is least. -/
def First {n : ℕ} (d : Fin n → EReal) (i : Fin n) : Prop := (∀ j, d i ≤ d j) ∧ ∀ j, d j = d i → i ≤ j

theorem exists_first {n : ℕ} (hn : 0 < n) (d : Fin n → EReal) : ∃ i, First d i := by
  haveI : Nonempty (Fin n) := ⟨⟨0, hn⟩⟩
  obtain ⟨i0, h0⟩ := Finite.exists_min d
  have hS : (Finset.univ.filter fun j => d j = d i0).Nonempty := ⟨i0, by simp⟩
  obtain ⟨i, hi, hle⟩ : ∃ i : Fin n, d i = d i0 ∧ ∀ j, d j = d i0 → i ≤ j :=
    ⟨(Finset.univ.filter fun j => d j = d i0).min' hS, (Finset.mem_filter.1 (Finset.min'_mem _ hS)).2, fun j hj => Finset.min'_le (Finset.univ.filter fun j => d j = d i0) j (Finset.mem_filter.2 ⟨Finset.mem_univ j, hj⟩)⟩
  exact ⟨i, fun j => hi.le.trans (h0 j), fun j hj => hle j (hj.trans hi)⟩

theorem First.unique {n : ℕ} {d : Fin n → EReal} {i j : Fin n} (h : First d i) (h' : First d j) : i = j :=
  le_antisymm (h.2 j (le_antisymm (h'.1 i) (h.1 j))) (h'.2 i (le_antisymm (h.1 j) (h'.1 i)))

/-- Adding a real cancels. -/
theorem real_add_cancel (r : ℝ) {a b : EReal} (h : (r : EReal) + a = r + b) : a = b := by
  have e : ∀ x : EReal, ((-r : ℝ) : EReal) + ((r : EReal) + x) = x := fun x => by
    rw [← add_assoc, ← EReal.coe_add, neg_add_cancel, EReal.coe_zero, zero_add]
  rw [← e a, h, e]

/-- Adding one real to every value leaves the first least index. -/
theorem First.shift {n : ℕ} (r : ℝ) {d d' : Fin n → EReal} (e : ∀ j, d' j = (r : EReal) + d j) {i : Fin n} (h : First d i) : First d' i :=
  ⟨fun j => by rw [e, e]; exact add_le_add le_rfl (h.1 j), fun j hj => h.2 j (real_add_cancel r (by rw [← e, ← e, hj]))⟩

/-- The least value is the value at the first least index. -/
theorem fold_min_first {n : ℕ} {d : Fin n → EReal} {i : Fin n} (h : First d i) : Finset.univ.fold min ⊤ d = d i :=
  le_antisymm ((Finset.fold_min_le _).2 (Or.inr ⟨i, Finset.mem_univ _, le_rfl⟩)) ((Finset.le_fold_min _).2 ⟨le_top, fun x _ => h.1 x⟩)

/-- The signed minimum of small words is the word of the minimum. -/
theorem minsi_small (a b : ℕ) (ha : a < 2 ^ 31) (hb : b < 2 ^ 31) :
    IntOp.minsi (BitVec.ofNat 32 a) (BitVec.ofNat 32 b) = BitVec.ofNat 32 (min a b) := by
  have ta : (BitVec.ofNat 32 a).toNat = a := by rw [BitVec.toNat_ofNat]; omega
  have tb : (BitVec.ofNat 32 b).toNat = b := by rw [BitVec.toNat_ofNat]; omega
  apply BitVec.eq_of_toNat_eq
  rw [toNat_minsi_of_lt _ _ (by omega) (by omega), ta, tb, BitVec.toNat_ofNat]
  omega

/-- A fold of the signed minimum over small words. -/
theorem fold_minsi_small {ι : Type} [Std.Commutative (IntOp.minsi (w := 32))] [Std.Associative (IntOp.minsi (w := 32))]
    (s : Finset ι) (b : ℕ) (hb : b < 2 ^ 31) (g : ι → ℕ) (hg : ∀ x, g x < 2 ^ 31) :
    s.fold IntOp.minsi (BitVec.ofNat 32 b) (fun x => BitVec.ofNat 32 (g x)) = BitVec.ofNat 32 (s.fold min b g) := by
  classical
  induction s using Finset.induction with
  | empty => rfl
  | insert x s hx ih =>
    rw [Finset.fold_insert hx, Finset.fold_insert hx, ih, minsi_small _ _ (hg x)]
    exact lt_of_le_of_lt ((Finset.fold_min_le _).2 (Or.inl le_rfl)) hb

/-- The least index among those at which the least value stands. -/
theorem fold_word_first [Std.Commutative (IntOp.minsi (w := 32))] [Std.Associative (IntOp.minsi (w := 32))]
    {d : Fin 1024 → EReal} {i : Fin 1024} (h : First d i) {m : EReal} (hm : m = d i) [∀ x, Decidable (d x = m)] :
    Finset.univ.fold IntOp.minsi 2147483647#32 (fun x : Fin 1024 => if d x = m then BitVec.ofNat 32 x else 1024#32) = BitVec.ofNat 32 i := by
  have e : (fun x : Fin 1024 => if d x = m then BitVec.ofNat 32 x else 1024#32) = fun x : Fin 1024 => BitVec.ofNat 32 (if d x = m then x.val else 1024) := by
    funext x; split <;> rfl
  rw [e]
  refine (fold_minsi_small Finset.univ 2147483647 (by norm_num) _ (fun x => ?_)).trans (congrArg _ (le_antisymm ?_ ?_))
  · have := x.2
    split <;> omega
  · exact (Finset.fold_min_le _).2 (Or.inr ⟨i, Finset.mem_univ _, by rw [if_pos hm.symm]⟩)
  · refine (Finset.le_fold_min _).2 ⟨by have := i.2; omega, fun x _ => ?_⟩
    split
    · rename_i hx
      exact h.2 x (hx.trans hm)
    · have := i.2; omega

/-- A one-hot row times a column is the column's entry. -/
theorem sum_one_hot {n : ℕ} (c : Fin n → EReal) (i : Fin n) : (∑ x : Fin n, (if x = i then (1 : EReal) else 0) * c x) = c i := by
  rw [Finset.sum_eq_single i]
  · rw [if_pos rfl, one_mul]
  · intro x _ hx
    rw [if_neg hx, zero_mul]
  · intro h; exact absurd (Finset.mem_univ i) h

/-! ### The fold over pairs -/

/-- Pairs ordered by value, then by index. -/
def lexle (a b : EReal × BitVec 32) : Prop := a.1 < b.1 ∨ (a.1 = b.1 ∧ a.2.toInt ≤ b.2.toInt)

theorem lexle_refl (a : EReal × BitVec 32) : lexle a a := Or.inr ⟨rfl, le_rfl⟩

theorem lexle_trans {a b c : EReal × BitVec 32} (h : lexle a b) (h' : lexle b c) : lexle a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- A fold of the lesser pair ends at the least of the pairs. -/
theorem foldl_lex (f : EReal × BitVec 32 → EReal × BitVec 32 → EReal × BitVec 32)
    (hf : ∀ a b, (f a b = a ∨ f a b = b) ∧ lexle (f a b) a ∧ lexle (f a b) b) : ∀ (L : List (EReal × BitVec 32)) (a : EReal × BitVec 32),
    (L.foldl f a = a ∨ L.foldl f a ∈ L) ∧ lexle (L.foldl f a) a ∧ ∀ x ∈ L, lexle (L.foldl f a) x
  | [], a => ⟨Or.inl rfl, lexle_refl a, fun _ h => absurd h List.not_mem_nil⟩
  | x :: L, a => by
    obtain ⟨h1, h2, h3⟩ := foldl_lex f hf L (f a x)
    obtain ⟨g1, g2, g3⟩ := hf a x
    rw [List.foldl_cons]
    refine ⟨?_, lexle_trans h2 g2, fun y hy => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.1 hy with rfl | hy
      · exact lexle_trans h2 g3
      · exact h3 y hy

/-- The least of the pairs of a family and its indices, together with the greatest value at index zero, is at the first least index. -/
theorem first_of_pairs (d : Fin 1024 → EReal) (L : List (EReal × BitVec 32)) (hL : ∀ k : Fin 1024, (d k, BitVec.ofNat 32 k) ∈ L)
    (hL' : ∀ x ∈ L, ∃ k : Fin 1024, x = (d k, BitVec.ofNat 32 k)) (r : EReal × BitVec 32) (h1 : r = (⊤, 0#32) ∨ r ∈ L)
    (h3 : ∀ x ∈ L, lexle r x) : ∃ i, First d i ∧ r.2 = BitVec.ofNat 32 i := by
  have tI : ∀ k : Fin 1024, (BitVec.ofNat 32 k.val).toInt = k.val := fun k => by
    have := k.2
    rw [BitVec.toInt_eq_toNat_cond, BitVec.toNat_ofNat]; split <;> omega
  have key : ∀ i : Fin 1024, r = (d i, BitVec.ofNat 32 i) → ∃ i, First d i ∧ r.2 = BitVec.ofNat 32 i := by
    intro i hi
    refine ⟨i, ⟨fun j => ?_, fun j hj => ?_⟩, by rw [hi]⟩
    · rcases h3 _ (hL j) with h | ⟨h, _⟩
      · rw [hi] at h; exact h.le
      · rw [hi] at h; exact h.le
    · rcases h3 _ (hL j) with h | ⟨_, h⟩
      · rw [hi] at h; exact absurd h (by rw [show ((d i, BitVec.ofNat 32 i.val) : EReal × BitVec 32).1 = d i from rfl]; rw [hj]; exact lt_irrefl _)
      · rw [hi] at h
        have h : (BitVec.ofNat 32 i.val).toInt ≤ (BitVec.ofNat 32 j.val).toInt := h
        rw [tI, tI] at h
        exact Fin.le_def.2 (by omega)
  rcases h1 with h1 | h1
  · have h0 : d 0 = ⊤ := by
      rcases h3 _ (hL 0) with h | ⟨h, _⟩
      · rw [h1] at h; exact absurd h not_top_lt
      · rw [h1] at h; exact h.symm
    exact key 0 (by rw [h1, h0]; rfl)
  · obtain ⟨k, hk⟩ := hL' r h1
    exact key k hk

/-! ### The sum of a masked window -/

/-- The rows of a window of 232 that are positions of a 14 × 14 image, fifteen rows apart, summed. -/
theorem sum_masked (F : ℕ → EReal) :
    (∑ n : Fin 232, if n.val % 15 ≠ 14 ∧ n.val < 210 then F n else 0) = ∑ r : Fin 14, ∑ c : Fin 14, F (r * 15 + c) := by
  rw [← Finset.sum_filter, ← Finset.sum_product', eq_comm]
  refine Finset.sum_nbij (fun p => (⟨p.1.val * 15 + p.2.val, by have := p.1.2; have := p.2.2; omega⟩ : Fin 232)) ?_ ?_ ?_ ?_
  · intro p _
    have := p.1.2; have := p.2.2
    exact Finset.mem_filter.2 ⟨Finset.mem_univ _, by show (p.1.val * 15 + p.2.val) % 15 ≠ 14 ∧ p.1.val * 15 + p.2.val < 210; omega⟩
  · intro p _ q _ h
    have h := congrArg Fin.val h
    have h : p.1.val * 15 + p.2.val = q.1.val * 15 + q.2.val := h
    have := p.2.2; have := q.2.2
    exact Prod.ext (Fin.ext (by omega)) (Fin.ext (by omega))
  · intro n hn
    have hn := (Finset.mem_filter.1 (Finset.mem_coe.1 hn)).2
    exact ⟨(⟨n.val / 15, by omega⟩, ⟨n.val % 15, by omega⟩), Finset.mem_coe.2 (Finset.mem_product.2 ⟨Finset.mem_univ _, Finset.mem_univ _⟩),
      Fin.ext (by show n.val / 15 * 15 + n.val % 15 = n.val; omega)⟩
  · intro p _; rfl

end Cert.Conv

end
-- ==== Proof.Conv.Real.lean ====
/-
  Real numbers among the extended reals: a convolution of real arrays is real, a constant positive factor moves through a
  sum, and the two programs' distances differ by a real number.
-/
module

public import proofs.«01_k».proof.Proof.Conv.Spec
public import proofs.«01_k».proof.Proof.Conv.Search

@[expose] public section

noncomputable section

namespace Cert.Conv

open Idealize.ShloMosaic

/-- Being a real number. -/
def IsReal (a : EReal) : Prop := ∃ r : ℝ, a = (r : EReal)

theorem IsReal.zero : IsReal 0 := ⟨0, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max_zero {a : EReal} (ha : IsReal a) : IsReal (max a 0) := by
  rcases le_total a 0 with h | h
  · rw [max_eq_right h]; exact IsReal.zero
  · rw [max_eq_left h]; exact ha

theorem IsReal.sum {n : ℕ} {f : Fin n → EReal} (h : ∀ i, IsReal (f i)) : IsReal (∑ i, f i) :=
  Finset.sum_induction f IsReal (fun _ _ => IsReal.add) IsReal.zero fun i _ => h i

/-- An array of real numbers, read at naturals, is real. -/
theorem IsReal.at4 {a b c d : ℕ} {A : (⟨4, ![a, b, c, d]⟩ : Shape).Idx → EReal} (h : ∀ i, IsReal (A i)) (i j k l : ℕ) :
    IsReal (at4 A i j k l) := by
  unfold Conv.at4
  split
  · exact h _
  · exact IsReal.zero

theorem IsReal.at1 {a : ℕ} {A : (⟨1, ![a]⟩ : Shape).Idx → EReal} (h : ∀ i, IsReal (A i)) (i : ℕ) : IsReal (at1 A i) := by
  unfold Conv.at1
  split
  · exact h _
  · exact IsReal.zero

theorem IsReal.tap {X w : Nat4} {C b o r c ky kx : ℕ} (hX : ∀ b ch r c, IsReal (X b ch r c)) (hw : ∀ o ch y x, IsReal (w o ch y x)) :
    IsReal (tap X w C b o r c ky kx) :=
  IsReal.sum fun _ => (hX _ _ _ _).mul (hw _ _ _ _)

/-- A convolution of real arrays is real. -/
theorem IsReal.conv {X w : Nat4} {β : ℕ → EReal} {C b o r c : ℕ} (hX : ∀ b ch r c, IsReal (X b ch r c))
    (hw : ∀ o ch y x, IsReal (w o ch y x)) (hβ : ∀ o, IsReal (β o)) : IsReal (conv X w β C b o r c) := by
  have h : ∀ ky kx, IsReal (Conv.tap X w C b o r c ky kx) := fun ky kx => IsReal.tap hX hw
  exact ((((((((((h 0 0).add (h 0 1)).add (h 0 2)).add (h 1 0)).add (h 1 1)).add (h 1 2)).add (h 2 0)).add (h 2 1)).add (h 2 2)).add (hβ o)).max_zero

/-- A number whose absolute value is below the top is real. -/
theorem IsReal.of_abs {a : EReal} (h : max a (-a) < ⊤) : IsReal a := by
  induction a using EReal.rec with
  | bot => exact absurd h (by simp)
  | top => exact absurd h (by simp)
  | coe r => exact ⟨r, rfl⟩

/-- A positive real factor moves through a sum. -/
theorem factor_sum {n : ℕ} (t : ℝ) (ht : 0 ≤ t) (f : Fin n → EReal) : (∑ i, (t : EReal) * f i) = (t : EReal) * ∑ i, f i := by
  induction n with
  | zero => simp
  | succ n ih =>
    rw [Fin.sum_univ_succ, Fin.sum_univ_succ, ih,
      EReal.left_distrib_of_nonneg_of_ne_top (EReal.coe_nonneg.2 ht) (EReal.coe_ne_top t)]

/-- A real number minus and plus: the difference returns the other number. -/
theorem add_sub_real {u : EReal} (h : IsReal u) (q : EReal) : u + (q - u) = q := by
  obtain ⟨r, rfl⟩ := h
  rw [sub_eq_add_neg, add_comm q, ← add_assoc, ← EReal.coe_neg, ← EReal.coe_add, add_neg_cancel, EReal.coe_zero, zero_add]

/-- The bits of 2, of 196. -/
theorem bits_two : Ideal.ofBits FTy.f32 1073741824#32 = ((2 : ℝ) : EReal) := by
  refine Eq.trans ?_ (congrArg ((↑) : ℝ → EReal) (show (8388608 : ℝ) * (2 ^ 22)⁻¹ = 2 by norm_num))
  simp [Ideal.ofBits, Ideal.ieee, EReal.coe_mul]

theorem bits_196 : Ideal.ofBits FTy.f32 1128529920#32 = ((196 : ℝ) : EReal) := by
  have h : (12845056 : ℝ) * (2 ^ 16)⁻¹ = 196 := by norm_num
  simp only [Ideal.ofBits, Ideal.ieee]
  rw [← h, EReal.coe_mul]
  simp

/-- The reference's distance is the kernel's, moved by the sum of the squares of the row, a real number. -/
theorem distance_shift (U B : Fin 768 → EReal) (t : ℝ) (ht : 0 ≤ t) :
    (∑ x, U x * U x) - (∑ x, (t : EReal) * U x * B x) + ∑ x, B x * B x
      = (∑ x, U x * U x) + ((∑ x, B x * B x) - (t : EReal) * ∑ x, U x * B x) := by
  have e : (∑ x, (t : EReal) * U x * B x) = (t : EReal) * ∑ x, U x * B x := by
    rw [← factor_sum t ht]
    exact Finset.sum_congr rfl fun x _ => mul_assoc _ _ _
  rw [e, sub_eq_add_neg, sub_eq_add_neg, add_assoc, add_comm (-_)]

/-- Twenty-seven columns, three channels under each of nine taps, summed tap by tap. -/
theorem sum_columns (f : ℕ → ℕ → EReal) :
    (∑ j : Fin 27, f (j.val / 3) (j.val % 3)) = (∑ ch : Fin 3, f 0 ch) + (∑ ch : Fin 3, f 1 ch) + (∑ ch : Fin 3, f 2 ch)
      + (∑ ch : Fin 3, f 3 ch) + (∑ ch : Fin 3, f 4 ch) + (∑ ch : Fin 3, f 5 ch)
      + (∑ ch : Fin 3, f 6 ch) + (∑ ch : Fin 3, f 7 ch) + (∑ ch : Fin 3, f 8 ch) := by
  have h : (∑ j : Fin 27, f (j.val / 3) (j.val % 3)) = ∑ p : Fin 9 × Fin 3, f p.1 p.2 := by
    refine Fintype.sum_equiv (finProdFinEquiv (m := 9) (n := 3)).symm _ _ fun j => ?_
    rfl
  rw [h, Fintype.sum_prod_type]
  simp only [Fin.sum_univ_succ (n := 8), Fin.sum_univ_eight]
  simp only [← add_assoc]
  rfl

/-- A sum times the reciprocal of 196 is the sum divided by 196. -/
theorem mean_div (s : EReal) : s * (((1 / 196 : ℝ)) : EReal) = Ideal.div s (Ideal.ofBits FTy.f32 1128529920#32) := by
  rw [bits_196, Ideal.div_coe (by norm_num)]

end Cert.Conv

end
-- ==== Proof.Finite.lean ====
/-
  The precondition's nine tests, read: each array's entries are real numbers.
-/
module

public import proofs.«01_k».proof.Pre_finite
public import proofs.«01_k».proof.Proof.Conv.Real
public import Idealize.ShloMosaic.Lib.Decide

@[expose] public section

noncomputable section

namespace Cert.Pre_finite

open Idealize.ShloMosaic Cert.Conv

/-- The predicate's side conditions. -/
theorem bcasts : Facts where
  bcast_S_S16x3x224x224 := by decide
  bcast_S_S96x3x3x3 := by decide
  bcast_S_S96 := by decide
  bcast_S_S192x96x3x3 := by decide
  bcast_S_S192 := by decide
  bcast_S_S384x192x3x3 := by decide
  bcast_S_S384 := by decide
  bcast_S_S768x384x3x3 := by decide
  bcast_S_S768 := by decide

/-- One test: a number below infinity in absolute value. -/
theorem real_of_test {s : Shape} (x : FVec Ideal s .f32) (y : FVec Ideal S_ .f32) (f : Fin 0 → Fin s.rank) (hb : S_.BroadcastsInDim s f)
    (hy : y = constant S_ .f32 0x7F800000#32) (h : cmpf .olt (Host.absf x) (broadcastInDim s f hb y) = fun _ => 1#1) (i : s.Idx) : IsReal (x i) := by
  refine IsReal.of_abs ?_
  have e := congrFun h i
  subst hy
  have e' : BitVec.ofBool (decide (max (x i) (-(x i)) < Ideal.ofBits FTy.f32 0x7F800000#32)) = 1#1 := e
  have t : Ideal.ofBits FTy.f32 0x7F800000#32 = (⊤ : EReal) := by simp [Ideal.ofBits, Ideal.ieee]
  rw [t] at e'
  by_contra hn
  rw [decide_eq_false hn] at e'
  exact absurd e' (by decide)

variable [Facts]

/-- The nine tests together. -/
theorem reals (x0 : FVec Ideal S16x3x224x224 .f32) (x1 : FVec Ideal S96x3x3x3 .f32) (x2 : FVec Ideal S96 .f32) (x3 : FVec Ideal S192x96x3x3 .f32) (x4 : FVec Ideal S192 .f32) (x5 : FVec Ideal S384x192x3x3 .f32) (x6 : FVec Ideal S384 .f32) (x7 : FVec Ideal S768x384x3x3 .f32) (x8 : FVec Ideal S768 .f32) (x9 : FVec Ideal S1024x768 .f32)
    (h : (fn (F := Ideal) x0 x1 x2 x3 x4 x5 x6 x7 x8 x9).1 = (fun _ => 1#1)
      ∧ (fn (F := Ideal) x0 x1 x2 x3 x4 x5 x6 x7 x8 x9).2.1 = (fun _ => 1#1)
      ∧ (fn (F := Ideal) x0 x1 x2 x3 x4 x5 x6 x7 x8 x9).2.2.1 = (fun _ => 1#1)
      ∧ (fn (F := Ideal) x0 x1 x2 x3 x4 x5 x6 x7 x8 x9).2.2.2.1 = (fun _ => 1#1)
      ∧ (fn (F := Ideal) x0 x1 x2 x3 x4 x5 x6 x7 x8 x9).2.2.2.2.1 = (fun _ => 1#1)
      ∧ (fn (F := Ideal) x0 x1 x2 x3 x4 x5 x6 x7 x8 x9).2.2.2.2.2.1 = (fun _ => 1#1)
      ∧ (fn (F := Ideal) x0 x1 x2 x3 x4 x5 x6 x7 x8 x9).2.2.2.2.2.2.1 = (fun _ => 1#1)
      ∧ (fn (F := Ideal) x0 x1 x2 x3 x4 x5 x6 x7 x8 x9).2.2.2.2.2.2.2.1 = (fun _ => 1#1)
      ∧ (fn (F := Ideal) x0 x1 x2 x3 x4 x5 x6 x7 x8 x9).2.2.2.2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) := by
  obtain ⟨h0, h1, h2, h3, h4, h5, h6, h7, h8⟩ := h
  exact ⟨real_of_test x0 _ _ _ rfl h0, real_of_test x1 _ _ _ rfl h1, real_of_test x2 _ _ _ rfl h2, real_of_test x3 _ _ _ rfl h3, real_of_test x4 _ _ _ rfl h4, real_of_test x5 _ _ _ rfl h5, real_of_test x6 _ _ _ rfl h6, real_of_test x7 _ _ _ rfl h7, real_of_test x8 _ _ _ rfl h8⟩

end Cert.Pre_finite

end
-- ==== Proof.Ker.Run.lean ====
/-
  The kernel's run: the launch over its segments, ending with the result's buffer at the contents after the last segment,
  the arguments as launched, and every counter at zero.
-/
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run. -/
theorem run : θ_run defs (onTc (τ := τ) (main (F := F))) ⟨m, fun _ => 0, ρ⟩ (fun r => (∀ c : Dev nD,
      r.2.mem ((c.tc : Thread nD τ).loc main_v117) = W50 m ρ c (Proc.devRef .tc main_v117))
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W50 m ρ c b)
    (hfin := fun c s' => by
      iintro ⟨⟨Hh, -⟩, HSI⟩
      unfold StableHlo.held
      imodintro
      iapply (pointsTo_read_all (Pipeline.ucRefs τ sig) (fun b => (((c : Thread nD τ)).1, b)) (W50 m ρ c) s')
      isplitl [Hh] <;> iassumption)
    (hQ := fun s h hz => ⟨fun c => h c _ (mem_uc main_v117 (by decide)), (fun c =>
      ⟨(h c _ (mem_uc main_arg0 (by decide))).trans (W50_main_arg0 m ρ c),
       (h c _ (mem_uc main_arg1 (by decide))).trans (W50_main_arg1 m ρ c),
       (h c _ (mem_uc main_arg2 (by decide))).trans (W50_main_arg2 m ρ c),
       (h c _ (mem_uc main_arg3 (by decide))).trans (W50_main_arg3 m ρ c),
       (h c _ (mem_uc main_arg4 (by decide))).trans (W50_main_arg4 m ρ c),
       (h c _ (mem_uc main_arg5 (by decide))).trans (W50_main_arg5 m ρ c),
       (h c _ (mem_uc main_arg6 (by decide))).trans (W50_main_arg6 m ρ c),
       (h c _ (mem_uc main_arg7 (by decide))).trans (W50_main_arg7 m ρ c),
       (h c _ (mem_uc main_arg8 (by decide))).trans (W50_main_arg8 m ρ c),
       (h c _ (mem_uc main_arg9 (by decide))).trans (W50_main_arg9 m ρ c)⟩), funext fun g => hz g (.inr (no_unscoped g.2))⟩)

end Cert.KernelIdeal.Ker

end
-- ==== Proof.Conv.Levels.lean ====
/-
  The whole network on real arrays: four levels and the mean, as functions of the ten arguments; a level recognised in the
  layouts that the two programs keep it in.
-/
module

public import proofs.«01_k».proof.Proof.Conv.Real

@[expose] public section

noncomputable section

namespace Cert.Conv

open Idealize.ShloMosaic

/-- A level, kept with its channels in front. -/
theorem at4_level {O H C : ℕ} {A : (⟨4, ![16, O, H, H]⟩ : Shape).Idx → EReal} {X w : Nat4} {β : ℕ → EReal}
    (h : ∀ (b : Fin 16) (o : Fin O) (r c : Fin H), A (ix4 b o r c) = conv X w β C b o r c) : at4 A = level X w β C O H := by
  funext b o r c
  unfold level at4
  by_cases hb : b < 16 ∧ o < O ∧ r < H ∧ c < H
  · rw [dif_pos hb, if_pos hb]; exact h ⟨b, hb.1⟩ ⟨o, hb.2.1⟩ ⟨r, hb.2.2.1⟩ ⟨c, hb.2.2.2⟩
  · rw [dif_neg hb, if_neg hb]

/-- A level, kept as rows. -/
theorem unflat_level {M O H C : ℕ} {A : (⟨3, ![16, M, O]⟩ : Shape).Idx → EReal} {X w : Nat4} {β : ℕ → EReal} (hM : H * (H + 1) ≤ M)
    (h : ∀ (b : Fin 16) (n : Fin M) (o : Fin O), A (ix3 b n o) = fconv (phase X (H + 1)) w β C (H + 1) b o n) :
    unflat A (H + 1) H = level X w β C O H := by
  funext b o r c
  unfold unflat level
  by_cases hr : r < H ∧ c < H
  · rw [if_pos hr]
    have hn : r * (H + 1) + c < M := by
      have : (r + 1) * (H + 1) ≤ H * (H + 1) := Nat.mul_le_mul_right _ hr.1
      have : (r + 1) * (H + 1) = r * (H + 1) + (H + 1) := by ring
      omega
    unfold at3
    by_cases hb : b < 16 ∧ o < O
    · rw [dif_pos ⟨hb.1, hn, hb.2⟩, if_pos ⟨hb.1, hb.2, hr.1, hr.2⟩]
      exact (h ⟨b, hb.1⟩ ⟨_, hn⟩ ⟨o, hb.2⟩).trans (fconv_phase X w β C (H + 1) b o r c (by omega))
    · rw [dif_neg (fun e => hb ⟨e.1, e.2.2⟩), if_neg (fun e => hb ⟨e.1, e.2.1⟩)]
  · rw [if_neg hr, if_neg (fun e => hr e.2.2)]

/-- The flattened convolution reads its arguments only inside their extents. -/
theorem fconv_congr {P P' w w' : Nat4} {β β' : ℕ → EReal} {C w1 b o n M : ℕ} (hn : n + (w1 + 1) < M) (h1 : 1 ≤ w1)
    (hP : ∀ p < 4, ∀ n < M, ∀ ch < C, P b p n ch = P' b p n ch)
    (hw : ∀ ch < C, ∀ y < 3, ∀ x < 3, w o ch y x = w' o ch y x) (hβ : β o = β' o) :
    fconv P w β C w1 b o n = fconv P' w' β' C w1 b o n := by
  have h : ∀ pid s ky kx, pid < 4 → s ≤ w1 + 1 → ky < 3 → kx < 3 → ftap P w C b o n pid s ky kx = ftap P' w' C b o n pid s ky kx := by
    intro pid s ky kx h4 hs hy hx
    exact Finset.sum_congr rfl fun ch _ => mul_congr (hP pid h4 _ (by omega) ch ch.2) (hw ch ch.2 ky hy kx hx)
  exact fconv_of_taps (h 0 0 0 0 (by omega) (by omega) (by omega) (by omega)) (h 1 0 0 1 (by omega) (by omega) (by omega) (by omega))
    (h 0 1 0 2 (by omega) (by omega) (by omega) (by omega)) (h 2 0 1 0 (by omega) (by omega) (by omega) (by omega))
    (h 3 0 1 1 (by omega) (by omega) (by omega) (by omega)) (h 2 1 1 2 (by omega) (by omega) (by omega) (by omega))
    (h 0 w1 2 0 (by omega) (by omega) (by omega) (by omega)) (h 1 w1 2 1 (by omega) (by omega) (by omega) (by omega))
    (h 0 (w1 + 1) 2 2 (by omega) (by omega) (by omega) (by omega)) hβ

/-- Nine matrices cut from an array of weights, read at a tap. -/
theorem taps9_of {C O : ℕ} {W : (⟨3, ![9, C, O]⟩ : Shape).Idx → EReal} {w : Nat4}
    (h : ∀ (t : Fin 9) (ch : Fin C) (o : Fin O), W (ix3 t ch o) = w o ch (t / 3) (t % 3)) (o : ℕ) (ho : o < O) :
    ∀ ch < C, ∀ y < 3, ∀ x < 3, taps9 W o ch y x = w o ch y x := by
  intro ch hc y hy x hx
  unfold taps9 at3
  rw [dif_pos ⟨by omega, hc, ho⟩]
  refine (h ⟨3 * y + x, by omega⟩ ⟨ch, hc⟩ ⟨o, ho⟩).trans ?_
  show w o ch ((3 * y + x) / 3) ((3 * y + x) % 3) = _
  rw [show (3 * y + x) / 3 = y by omega, show (3 * y + x) % 3 = x by omega]

/-- The bias row, read at a channel. -/
theorem row_of {O : ℕ} {B : (⟨2, ![1, O]⟩ : Shape).Idx → EReal} {β : ℕ → EReal} (h : ∀ (i : Fin 1) (o : Fin O), B (ix2 i o) = β o)
    (o : ℕ) (ho : o < O) : at2 B 0 o = β o := by
  unfold at2
  rw [dif_pos ⟨by omega, ho⟩]
  exact h 0 ⟨o, ho⟩

/-- The phases kept as an array, read inside its extents. -/
theorem phases_of {M C : ℕ} {P : (⟨4, ![16, 4, M, C]⟩ : Shape).Idx → EReal} {Q : Nat4}
    (h : ∀ (b : Fin 16) (p : Fin 4) (n : Fin M) (ch : Fin C), P (ix4 b p n ch) = Q b p n ch) (b : ℕ) (hb : b < 16) :
    ∀ p < 4, ∀ n < M, ∀ ch < C, at4 P b p n ch = Q b p n ch := by
  intro p hp n hn ch hc
  unfold at4
  rw [dif_pos ⟨hb, hp, hn, hc⟩]
  exact h ⟨b, hb⟩ ⟨p, hp⟩ ⟨n, hn⟩ ⟨ch, hc⟩

/-- The first level's product over twenty-seven columns is the flattened convolution. -/
theorem columns_level {X w : Nat4} {β : ℕ → EReal} {b o n : ℕ} (g : Fin 27 → EReal)
    (h0 : ∀ ch : Fin 3, g ⟨0 + ch, by omega⟩ = X b 0 (n + 0) ch * w o ch 0 0) (h1 : ∀ ch : Fin 3, g ⟨3 + ch, by omega⟩ = X b 1 (n + 0) ch * w o ch 0 1)
    (h2 : ∀ ch : Fin 3, g ⟨6 + ch, by omega⟩ = X b 0 (n + 1) ch * w o ch 0 2) (h3 : ∀ ch : Fin 3, g ⟨9 + ch, by omega⟩ = X b 2 (n + 0) ch * w o ch 1 0)
    (h4 : ∀ ch : Fin 3, g ⟨12 + ch, by omega⟩ = X b 3 (n + 0) ch * w o ch 1 1) (h5 : ∀ ch : Fin 3, g ⟨15 + ch, by omega⟩ = X b 2 (n + 1) ch * w o ch 1 2)
    (h6 : ∀ ch : Fin 3, g ⟨18 + ch, by omega⟩ = X b 0 (n + 113) ch * w o ch 2 0) (h7 : ∀ ch : Fin 3, g ⟨21 + ch, by omega⟩ = X b 1 (n + 113) ch * w o ch 2 1)
    (h8 : ∀ ch : Fin 3, g ⟨24 + ch, by omega⟩ = X b 0 (n + 114) ch * w o ch 2 2) :
    max ((∑ j, g j) + β o) 0 = fconv X w β 3 113 b o n := by
  obtain ⟨f, hf⟩ : ∃ f : ℕ → ℕ → EReal, ∀ t ch, f t ch = if h : 3 * t + ch < 27 then g ⟨3 * t + ch, h⟩ else 0 := ⟨_, fun _ _ => rfl⟩
  have e : (∑ j, g j) = ∑ j : Fin 27, f (j.val / 3) (j.val % 3) := by
    refine Finset.sum_congr rfl fun j _ => ?_
    have hj : 3 * (j.val / 3) + j.val % 3 = j.val := by omega
    rw [hf, dif_pos (by omega)]
    exact congrArg g (Fin.ext hj.symm)
  rw [e, sum_columns]
  have d : ∀ (t : ℕ) (ht : t < 9) (ch : Fin 3), f t ch = g ⟨3 * t + ch.val, by omega⟩ := fun t ht ch => (hf t ch).trans (dif_pos (by omega))
  refine fconv_of_taps ?_ ?_ ?_ ?_ ?_ ?_ ?_ ?_ ?_ rfl <;> refine Finset.sum_congr rfl fun ch _ => (d _ (by omega) ch).trans ?_
  · exact h0 ch
  · exact h1 ch
  · exact h2 ch
  · exact h3 ch
  · exact h4 ch
  · exact h5 ch
  · exact h6 ch
  · exact h7 ch
  · exact h8 ch

/-- A level of a real array is real. -/
theorem IsReal.level {X w : Nat4} {β : ℕ → EReal} {C O H : ℕ} (hX : ∀ b ch r c, IsReal (X b ch r c))
    (hw : ∀ o ch y x, IsReal (w o ch y x)) (hβ : ∀ o, IsReal (β o)) (b o r c : ℕ) : IsReal (level X w β C O H b o r c) := by
  unfold Conv.level
  split
  · exact IsReal.conv hX hw hβ
  · exact IsReal.zero

/-- The four levels, from the images, the weights and the biases. -/
def net (X w0 : Nat4) (β0 : ℕ → EReal) (w1 : Nat4) (β1 : ℕ → EReal) (w2 : Nat4) (β2 : ℕ → EReal) : Nat4 :=
  level (level (level X w0 β0 3 96 112) w1 β1 96 192 56) w2 β2 192 384 28

/-- The mean of the last level over its positions. -/
def mean (X w : Nat4) (β : ℕ → EReal) (b o : ℕ) : EReal :=
  Ideal.div (∑ r : Fin 14, ∑ c : Fin 14, conv X w β 384 b o r c) (Ideal.ofBits FTy.f32 1128529920#32)

theorem IsReal.mean {X w : Nat4} {β : ℕ → EReal} (hX : ∀ b ch r c, IsReal (X b ch r c))
    (hw : ∀ o ch y x, IsReal (w o ch y x)) (hβ : ∀ o, IsReal (β o)) (b o : ℕ) : IsReal (mean X w β b o) := by
  unfold Conv.mean
  rw [← mean_div]
  exact (IsReal.sum fun _ => IsReal.sum fun _ => IsReal.conv hX hw hβ).mul ⟨_, rfl⟩

end Cert.Conv

end
-- ==== Proof.Ker.Host0.lean ====
/-
  The host operations before region 0: the four phases of the images, the nine shifted copies side by side as 27 columns,
  the weights as one matrix, the bias as a row; and the reshape after region 4.
-/
module

public import proofs.«01_k».proof.Proof.Gen.KernelIdeal.Launch
public import proofs.«01_k».proof.Proof.Conv.Spec
public import Idealize.ShloMosaic.Lib.StableHlo.ReadAt

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

/-- The padding value of this stretch: the word zero made a float. -/
theorem pad_word0 : (FloatOps.sitofp (F := Ideal) FTy.f32 0#32 : EReal) = 0 := by
  show (((0#32 : BitVec 32).toInt : ℝ) : EReal) = 0
  simp

/-- The operations that make the phases. -/
abbrev phaseOps0 : List (HloOp τ sig (Elt Ideal)) :=
  hostOps0 ++ (hostOps0_1 ++ (hostOps0_2 ++ (hostOps0_3 ++ (hostOps0_4 ++ (hostOps0_5 ++ (hostOps0_6 ++ (hostOps0_7 ++ (hostOps0_8 ++ (hostOps0_9)))))))))

set_option maxHeartbeats 4000000 in
/-- Phase 0 at a row and channel. -/
theorem phase0_0 (V : Valuation τ sig (Elt Ideal)) (b : Fin 16) (n : Fin 12922) (ch : Fin 3) :
    after phaseOps0 V (Proc.devRef .tc main_v17) (ix4 b (0 : Fin 4) n ch)
      = phase (at4 (a := 16) (b := 3) (c := 224) (d := 224) (V (Proc.devRef .tc main_arg0))) 113 b 0 n ch := by
  after_reads_at
  after_reads_at
  exact phase_of_images (C := 3) _ 0 n _ _ _ b ch _ _ pad_word0 (by omega) (by omega) (by omega)

set_option maxHeartbeats 4000000 in
/-- Phase 1 at a row and channel. -/
theorem phase0_1 (V : Valuation τ sig (Elt Ideal)) (b : Fin 16) (n : Fin 12922) (ch : Fin 3) :
    after phaseOps0 V (Proc.devRef .tc main_v17) (ix4 b (1 : Fin 4) n ch)
      = phase (at4 (a := 16) (b := 3) (c := 224) (d := 224) (V (Proc.devRef .tc main_arg0))) 113 b 1 n ch := by
  after_reads_at
  after_reads_at
  exact phase_of_images (C := 3) _ 1 n _ _ _ b ch _ _ pad_word0 (by omega) (by omega) (by omega)

set_option maxHeartbeats 4000000 in
/-- Phase 2 at a row and channel. -/
theorem phase0_2 (V : Valuation τ sig (Elt Ideal)) (b : Fin 16) (n : Fin 12922) (ch : Fin 3) :
    after phaseOps0 V (Proc.devRef .tc main_v17) (ix4 b (2 : Fin 4) n ch)
      = phase (at4 (a := 16) (b := 3) (c := 224) (d := 224) (V (Proc.devRef .tc main_arg0))) 113 b 2 n ch := by
  after_reads_at
  after_reads_at
  exact phase_of_images (C := 3) _ 2 n _ _ _ b ch _ _ pad_word0 (by omega) (by omega) (by omega)

set_option maxHeartbeats 4000000 in
/-- Phase 3 at a row and channel. -/
theorem phase0_3 (V : Valuation τ sig (Elt Ideal)) (b : Fin 16) (n : Fin 12922) (ch : Fin 3) :
    after phaseOps0 V (Proc.devRef .tc main_v17) (ix4 b (3 : Fin 4) n ch)
      = phase (at4 (a := 16) (b := 3) (c := 224) (d := 224) (V (Proc.devRef .tc main_arg0))) 113 b 3 n ch := by
  after_reads_at
  after_reads_at
  exact phase_of_images (C := 3) _ 3 n _ _ _ b ch _ _ pad_word0 (by omega) (by omega) (by omega)

/-- Every phase. -/
theorem phases0 (V : Valuation τ sig (Elt Ideal)) (b : Fin 16) (p : Fin 4) (n : Fin 12922) (ch : Fin 3) :
    after phaseOps0 V (Proc.devRef .tc main_v17) (ix4 b p n ch)
      = phase (at4 (a := 16) (b := 3) (c := 224) (d := 224) (V (Proc.devRef .tc main_arg0))) 113 b p n ch :=
  match p with
  | 0 => phase0_0 V b n ch
  | 1 => phase0_1 V b n ch
  | 2 => phase0_2 V b n ch
  | 3 => phase0_3 V b n ch

set_option maxHeartbeats 4000000 in
/-- Columns 0 to 2: phase 0, shifted by 0. -/
theorem column0_0 (V : Valuation τ sig (Elt Ideal)) (b : Fin 16) (n : Fin 12800) (ch : Fin 3) :
    after hostOps0_10 V (Proc.devRef .tc main_v36) (ix3 b n (⟨0 + ch, by omega⟩ : Fin 27))
      = V (Proc.devRef .tc main_v17) (ix4 b (0 : Fin 4) (⟨n + 0, by omega⟩ : Fin 12922) ch) := by
  after_reads_at
  after_reads_at

set_option maxHeartbeats 4000000 in
/-- Columns 3 to 5: phase 1, shifted by 0. -/
theorem column0_1 (V : Valuation τ sig (Elt Ideal)) (b : Fin 16) (n : Fin 12800) (ch : Fin 3) :
    after hostOps0_10 V (Proc.devRef .tc main_v36) (ix3 b n (⟨3 + ch, by omega⟩ : Fin 27))
      = V (Proc.devRef .tc main_v17) (ix4 b (1 : Fin 4) (⟨n + 0, by omega⟩ : Fin 12922) ch) := by
  after_reads_at
  after_reads_at

set_option maxHeartbeats 4000000 in
/-- Columns 6 to 8: phase 0, shifted by 1. -/
theorem column0_2 (V : Valuation τ sig (Elt Ideal)) (b : Fin 16) (n : Fin 12800) (ch : Fin 3) :
    after hostOps0_10 V (Proc.devRef .tc main_v36) (ix3 b n (⟨6 + ch, by omega⟩ : Fin 27))
      = V (Proc.devRef .tc main_v17) (ix4 b (0 : Fin 4) (⟨n + 1, by omega⟩ : Fin 12922) ch) := by
  after_reads_at
  rw [dif_neg (by omega), dif_neg (by omega), dif_pos (by omega)]
  after_reads_at
  refine congrArg (V (Proc.devRef .tc main_v17)) (congr (congrArg (ix4 b (0 : Fin 4)) (Fin.ext ?_)) (Fin.ext ?_)) <;> simp only [] <;> omega

set_option maxHeartbeats 4000000 in
/-- Columns 9 to 11: phase 2, shifted by 0. -/
theorem column0_3 (V : Valuation τ sig (Elt Ideal)) (b : Fin 16) (n : Fin 12800) (ch : Fin 3) :
    after hostOps0_10 V (Proc.devRef .tc main_v36) (ix3 b n (⟨9 + ch, by omega⟩ : Fin 27))
      = V (Proc.devRef .tc main_v17) (ix4 b (2 : Fin 4) (⟨n + 0, by omega⟩ : Fin 12922) ch) := by
  after_reads_at
  rw [dif_neg (by omega), dif_neg (by omega), dif_neg (by omega), dif_pos (by omega)]
  after_reads_at
  refine congrArg (V (Proc.devRef .tc main_v17)) (congr (congrArg (ix4 b (2 : Fin 4)) (Fin.ext ?_)) (Fin.ext ?_)) <;> simp only [] <;> omega

set_option maxHeartbeats 4000000 in
/-- Columns 12 to 14: phase 3, shifted by 0. -/
theorem column0_4 (V : Valuation τ sig (Elt Ideal)) (b : Fin 16) (n : Fin 12800) (ch : Fin 3) :
    after hostOps0_10 V (Proc.devRef .tc main_v36) (ix3 b n (⟨12 + ch, by omega⟩ : Fin 27))
      = V (Proc.devRef .tc main_v17) (ix4 b (3 : Fin 4) (⟨n + 0, by omega⟩ : Fin 12922) ch) := by
  after_reads_at
  rw [dif_neg (by omega), dif_neg (by omega), dif_neg (by omega), dif_neg (by omega), dif_pos (by omega)]
  after_reads_at
  refine congrArg (V (Proc.devRef .tc main_v17)) (congr (congrArg (ix4 b (3 : Fin 4)) (Fin.ext ?_)) (Fin.ext ?_)) <;> simp only [] <;> omega

set_option maxHeartbeats 4000000 in
/-- Columns 15 to 17: phase 2, shifted by 1. -/
theorem column0_5 (V : Valuation τ sig (Elt Ideal)) (b : Fin 16) (n : Fin 12800) (ch : Fin 3) :
    after hostOps0_10 V (Proc.devRef .tc main_v36) (ix3 b n (⟨15 + ch, by omega⟩ : Fin 27))
      = V (Proc.devRef .tc main_v17) (ix4 b (2 : Fin 4) (⟨n + 1, by omega⟩ : Fin 12922) ch) := by
  after_reads_at
  rw [dif_neg (by omega), dif_neg (by omega), dif_neg (by omega), dif_neg (by omega), dif_neg (by omega), dif_pos (by omega)]
  after_reads_at
  refine congrArg (V (Proc.devRef .tc main_v17)) (congr (congrArg (ix4 b (2 : Fin 4)) (Fin.ext ?_)) (Fin.ext ?_)) <;> simp only [] <;> omega

set_option maxHeartbeats 4000000 in
/-- Columns 18 to 20: phase 0, shifted by 113. -/
theorem column0_6 (V : Valuation τ sig (Elt Ideal)) (b : Fin 16) (n : Fin 12800) (ch : Fin 3) :
    after hostOps0_10 V (Proc.devRef .tc main_v36) (ix3 b n (⟨18 + ch, by omega⟩ : Fin 27))
      = V (Proc.devRef .tc main_v17) (ix4 b (0 : Fin 4) (⟨n + 113, by omega⟩ : Fin 12922) ch) := by
  after_reads_at
  rw [dif_neg (by omega), dif_neg (by omega), dif_neg (by omega), dif_neg (by omega), dif_neg (by omega), dif_neg (by omega), dif_pos (by omega)]
  after_reads_at
  refine congrArg (V (Proc.devRef .tc main_v17)) (congr (congrArg (ix4 b (0 : Fin 4)) (Fin.ext ?_)) (Fin.ext ?_)) <;> simp only [] <;> omega

set_option maxHeartbeats 4000000 in
/-- Columns 21 to 23: phase 1, shifted by 113. -/
theorem column0_7 (V : Valuation τ sig (Elt Ideal)) (b : Fin 16) (n : Fin 12800) (ch : Fin 3) :
    after hostOps0_10 V (Proc.devRef .tc main_v36) (ix3 b n (⟨21 + ch, by omega⟩ : Fin 27))
      = V (Proc.devRef .tc main_v17) (ix4 b (1 : Fin 4) (⟨n + 113, by omega⟩ : Fin 12922) ch) := by
  after_reads_at
  rw [dif_neg (by omega), dif_neg (by omega), dif_neg (by omega), dif_neg (by omega), dif_neg (by omega), dif_neg (by omega), dif_neg (by omega), dif_pos (by omega)]
  after_reads_at
  refine congrArg (V (Proc.devRef .tc main_v17)) (congr (congrArg (ix4 b (1 : Fin 4)) (Fin.ext ?_)) (Fin.ext ?_)) <;> simp only [] <;> omega

set_option maxHeartbeats 4000000 in
/-- Columns 24 to 26: phase 0, shifted by 114. -/
theorem column0_8 (V : Valuation τ sig (Elt Ideal)) (b : Fin 16) (n : Fin 12800) (ch : Fin 3) :
    after hostOps0_10 V (Proc.devRef .tc main_v36) (ix3 b n (⟨24 + ch, by omega⟩ : Fin 27))
      = V (Proc.devRef .tc main_v17) (ix4 b (0 : Fin 4) (⟨n + 114, by omega⟩ : Fin 12922) ch) := by
  after_reads_at
  rw [dif_neg (by omega), dif_neg (by omega), dif_neg (by omega), dif_neg (by omega), dif_neg (by omega), dif_neg (by omega), dif_neg (by omega), dif_neg (by omega)]
  after_reads_at
  refine congrArg (V (Proc.devRef .tc main_v17)) (congr (congrArg (ix4 b (0 : Fin 4)) (Fin.ext ?_)) (Fin.ext ?_)) <;> simp only [] <;> omega

/-- The weights: column `j` is channel `j % 3` of tap `j / 3`. -/
theorem weights0 (V : Valuation τ sig (Elt Ideal)) (j : Fin 27) (o : Fin 96) :
    after hostOps0_10 V (Proc.devRef .tc main_v38) (ix2 j o)
      = at4 (a := 96) (b := 3) (c := 3) (d := 3) (V (Proc.devRef .tc main_arg1)) o (j % 3) (j / 9) (j / 3 % 3) := by
  after_reads_at
  exact at4_ix (a := 96) (b := 3) (c := 3) (d := 3) _ o ⟨j % 3, by omega⟩ ⟨j / 9, by omega⟩ ⟨j / 3 % 3, by omega⟩

/-- The bias. -/
theorem bias0 (V : Valuation τ sig (Elt Ideal)) (i : Fin 1) (o : Fin 96) :
    after hostOps0_10 V (Proc.devRef .tc main_v39) (ix2 i o) = at1 (a := 96) (V (Proc.devRef .tc main_arg2)) o := by
  after_reads_at
  exact at1_ix (a := 96) _ o

/-- The result is region 4's array, reshaped. -/
theorem result_read (V : Valuation τ sig (Elt Ideal)) (b : Fin 16) (j : Fin 768) (x y : Fin 1) :
    after hostOps5 V (Proc.devRef .tc main_v117) (ix4 b j x y) = V (Proc.devRef .tc main_v116) (ix2 b j) := by
  after_reads_at

end Cert.KernelIdeal.Ker

end
-- ==== Proof.Ker.Region0.lean ====
/-
  Region 0, read: the first level's columns times the weights, with the bias, rectified.
-/
module

public import proofs.«01_k».proof.Proof.Gen.KernelIdeal.Frame.Region0
public import proofs.«01_k».proof.Proof.Conv.Spec
public import Idealize.ShloMosaic.Lib.Pipeline.ValueKit

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv
open Idealize.ShloMosaic.Pipeline (Dat)

variable (V : (c : Dev nD) → (b : Ref sig .tc) → Buf (Elt Ideal) ((c : Thread nD τ).loc b))

/-- Which block each operand's window is at, at a grid step. -/
theorem idx0 : ∀ t : Fin cfg0.N, win0_0.index t = ![t.val / 20, t.val % 20, 0] ∧ win0_1.index t = ![0, 0] ∧ win0_2.index t = ![0, 0]
    ∧ win0_3.index t = ![t.val / 20, t.val % 20, 0] :=
  (by decide +kernel : ∀ t : Fin grid0.N, _)

/-- The product of the columns and the weights, with bias, rectified. -/
def REF0 (P : FVec Ideal S16x12800x27 .f32) (w : FVec Ideal S27x96 .f32) (β : FVec Ideal S1x96 .f32) : FVec Ideal S16x12800x96 .f32 := fun i =>
  max ((∑ j : Fin 27, P (ix3 (i 0) (i 1) j) * w (ix2 j (i 2))) + β (ix2 (0 : Fin 1) (i 2))) (0 : EReal)

/-- What the region's output array holds at the end. -/
theorem final0 (c : Dev nD) : (dat0 V c).arrAt 3 cfg0.N = REF0 (V c main_v36) (V c main_v38) (V c main_v39) := by
  refine (dat0 V c).arrAt_eq_of_covers 3 _ (by decide +kernel) fun t _ y => ?_
  blk_simp
  rw [after0_3]; frame_out
  unfold REF0
  pointwise [k0_pay1]
  blk_point [iblk0, idx0 t]
end Cert.KernelIdeal.Ker

end
-- ==== Proof.Ker.Chain0.lean ====
/-
  The kernel's first level: the operations before region 0, the region, and what its array holds.
-/
module

public import proofs.«01_k».proof.Proof.Gen.KernelIdeal.Frame
public import proofs.«01_k».proof.Proof.Conv.Levels
public import proofs.«01_k».proof.Proof.Ker.Host0
public import proofs.«01_k».proof.Proof.Ker.Region0

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

variable (m : (ℓ : Loc nD τ sig) → Buf (Elt Ideal) ℓ) (ρ : Dev nD → PrngReg)

/-- One list of operations after another. -/
theorem after_pair (l l' : List (HloOp τ sig (Elt Ideal))) (V : Valuation τ sig (Elt Ideal)) :
    after (l ++ l') V = after l' (after l V) := by
  induction l generalizing V with
  | nil => rfl
  | cons op l ih => exact ih _

/-- The contents where the phases stand. -/
theorem W10_phases (c : Dev nD) : W10 m ρ c = after phaseOps0 (W0 m ρ c) := by
  rw [after_pair, after_pair, after_pair, after_pair, after_pair, after_pair, after_pair, after_pair, after_pair]

/-- The region's result over typed arrays. -/
theorem level0_of {P : FVec Ideal S16x12800x27 .f32} {w : FVec Ideal S27x96 .f32} {β : FVec Ideal S1x96 .f32}
    {Q : FVec Ideal S16x4x12922x3 .f32} {X : FVec Ideal S16x3x224x224 .f32} {K : FVec Ideal S96x3x3x3 .f32} {B : FVec Ideal S96 .f32}
    (hQ : ∀ (b : Fin 16) (p : Fin 4) (n : Fin 12922) (ch : Fin 3), Q (ix4 b p n ch) = phase (at4 X) 113 b p n ch)
    (c0 : ∀ (b : Fin 16) (n : Fin 12800) (ch : Fin 3), P (ix3 b n ⟨0 + ch, by omega⟩) = Q (ix4 b 0 ⟨n + 0, by omega⟩ ch))
    (c1 : ∀ (b : Fin 16) (n : Fin 12800) (ch : Fin 3), P (ix3 b n ⟨3 + ch, by omega⟩) = Q (ix4 b 1 ⟨n + 0, by omega⟩ ch))
    (c2 : ∀ (b : Fin 16) (n : Fin 12800) (ch : Fin 3), P (ix3 b n ⟨6 + ch, by omega⟩) = Q (ix4 b 0 ⟨n + 1, by omega⟩ ch))
    (c3 : ∀ (b : Fin 16) (n : Fin 12800) (ch : Fin 3), P (ix3 b n ⟨9 + ch, by omega⟩) = Q (ix4 b 2 ⟨n + 0, by omega⟩ ch))
    (c4 : ∀ (b : Fin 16) (n : Fin 12800) (ch : Fin 3), P (ix3 b n ⟨12 + ch, by omega⟩) = Q (ix4 b 3 ⟨n + 0, by omega⟩ ch))
    (c5 : ∀ (b : Fin 16) (n : Fin 12800) (ch : Fin 3), P (ix3 b n ⟨15 + ch, by omega⟩) = Q (ix4 b 2 ⟨n + 1, by omega⟩ ch))
    (c6 : ∀ (b : Fin 16) (n : Fin 12800) (ch : Fin 3), P (ix3 b n ⟨18 + ch, by omega⟩) = Q (ix4 b 0 ⟨n + 113, by omega⟩ ch))
    (c7 : ∀ (b : Fin 16) (n : Fin 12800) (ch : Fin 3), P (ix3 b n ⟨21 + ch, by omega⟩) = Q (ix4 b 1 ⟨n + 113, by omega⟩ ch))
    (c8 : ∀ (b : Fin 16) (n : Fin 12800) (ch : Fin 3), P (ix3 b n ⟨24 + ch, by omega⟩) = Q (ix4 b 0 ⟨n + 114, by omega⟩ ch))
    (hw : ∀ (j : Fin 27) (o : Fin 96), w (ix2 j o) = at4 K o (j % 3) (j / 9) (j / 3 % 3))
    (hβ : ∀ (i : Fin 1) (o : Fin 96), β (ix2 i o) = at1 B o) :
    unflat (REF0 P w β) 113 112 = level (at4 X) (at4 K) (at1 B) 3 96 112 := by
  refine unflat_level (by norm_num) fun b n o => ?_
  have k : ∀ (j : Fin 27) (ch : Fin 3) (y x : ℕ), j.val % 3 = ch → j.val / 9 = y → j.val / 3 % 3 = x → w (ix2 j o) = at4 K o ch y x := by
    intro j ch y x e1 e2 e3
    rw [hw, e1, e2, e3]
  show max ((∑ j : Fin 27, P (ix3 b n j) * w (ix2 j o)) + β (ix2 0 o)) 0 = _
  rw [hβ]
  refine columns_level (fun j => P (ix3 b n j) * w (ix2 j o)) ?_ ?_ ?_ ?_ ?_ ?_ ?_ ?_ ?_ <;> intro ch
  · exact mul_congr ((c0 b n ch).trans (hQ _ _ _ _)) (k _ ch 0 0 (show (0 + ch.val) % 3 = _ by omega) (show (0 + ch.val) / 9 = _ by omega) (show (0 + ch.val) / 3 % 3 = _ by omega))
  · exact mul_congr ((c1 b n ch).trans (hQ _ _ _ _)) (k _ ch 0 1 (show (3 + ch.val) % 3 = _ by omega) (show (3 + ch.val) / 9 = _ by omega) (show (3 + ch.val) / 3 % 3 = _ by omega))
  · exact mul_congr ((c2 b n ch).trans (hQ _ _ _ _)) (k _ ch 0 2 (show (6 + ch.val) % 3 = _ by omega) (show (6 + ch.val) / 9 = _ by omega) (show (6 + ch.val) / 3 % 3 = _ by omega))
  · exact mul_congr ((c3 b n ch).trans (hQ _ _ _ _)) (k _ ch 1 0 (show (9 + ch.val) % 3 = _ by omega) (show (9 + ch.val) / 9 = _ by omega) (show (9 + ch.val) / 3 % 3 = _ by omega))
  · exact mul_congr ((c4 b n ch).trans (hQ _ _ _ _)) (k _ ch 1 1 (show (12 + ch.val) % 3 = _ by omega) (show (12 + ch.val) / 9 = _ by omega) (show (12 + ch.val) / 3 % 3 = _ by omega))
  · exact mul_congr ((c5 b n ch).trans (hQ _ _ _ _)) (k _ ch 1 2 (show (15 + ch.val) % 3 = _ by omega) (show (15 + ch.val) / 9 = _ by omega) (show (15 + ch.val) / 3 % 3 = _ by omega))
  · exact mul_congr ((c6 b n ch).trans (hQ _ _ _ _)) (k _ ch 2 0 (show (18 + ch.val) % 3 = _ by omega) (show (18 + ch.val) / 9 = _ by omega) (show (18 + ch.val) / 3 % 3 = _ by omega))
  · exact mul_congr ((c7 b n ch).trans (hQ _ _ _ _)) (k _ ch 2 1 (show (21 + ch.val) % 3 = _ by omega) (show (21 + ch.val) / 9 = _ by omega) (show (21 + ch.val) / 3 % 3 = _ by omega))
  · exact mul_congr ((c8 b n ch).trans (hQ _ _ _ _)) (k _ ch 2 2 (show (24 + ch.val) % 3 = _ by omega) (show (24 + ch.val) / 9 = _ by omega) (show (24 + ch.val) / 3 % 3 = _ by omega))

/-- After region 0: the first level of the arguments. -/
theorem after_region0 (c : Dev nD) : unflat (M := 12800) (C := 96) (W12 m ρ c (Proc.devRef .tc main_v40)) 113 112
    = level (at4 (a := 16) (b := 3) (c := 224) (d := 224) (m ((c.tc : Thread nD τ).loc main_arg0))) (at4 (a := 96) (b := 3) (c := 3) (d := 3) (m ((c.tc : Thread nD τ).loc main_arg1)))
      (at1 (a := 96) (m ((c.tc : Thread nD τ).loc main_arg2))) 3 96 112 := by
  have e : W12 m ρ c (Proc.devRef .tc main_v40) = REF0 (W11 m ρ c (Proc.devRef .tc main_v36)) (W11 m ρ c (Proc.devRef .tc main_v38)) (W11 m ρ c (Proc.devRef .tc main_v39)) :=
    (W12_arr m ρ c 3).trans (final0 (V11 m ρ) c)
  have hQ := phases0 (W0 m ρ c)
  rw [← W10_phases m ρ c] at hQ
  have hw := weights0 (W10 m ρ c)
  rw [W10_args m ρ c main_arg1 (by decide)] at hw
  have hb := bias0 (W10 m ρ c)
  rw [W10_args m ρ c main_arg2 (by decide)] at hb
  rw [e]
  exact level0_of (P := W11 m ρ c (Proc.devRef .tc main_v36)) (Q := W10 m ρ c (Proc.devRef .tc main_v17)) hQ (column0_0 (W10 m ρ c)) (column0_1 (W10 m ρ c)) (column0_2 (W10 m ρ c)) (column0_3 (W10 m ρ c)) (column0_4 (W10 m ρ c))
    (column0_5 (W10 m ρ c)) (column0_6 (W10 m ρ c)) (column0_7 (W10 m ρ c)) (column0_8 (W10 m ρ c)) hw hb

end Cert.KernelIdeal.Ker

end
-- ==== Proof.Ker.Host1.lean ====
/-
  The host operations before region 1: the four phases of the level below, flattened and padded; the weights as nine
  matrices; the bias as a row.
-/
module

public import proofs.«01_k».proof.Proof.Gen.KernelIdeal.Launch
public import proofs.«01_k».proof.Proof.Conv.Spec
public import Idealize.ShloMosaic.Lib.StableHlo.ReadAt

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

/-- The padding value of this stretch: the word zero made a float. -/
theorem pad_word1 : (FloatOps.sitofp (F := Ideal) FTy.f32 0#32 : EReal) = 0 := by
  show (((0#32 : BitVec 32).toInt : ℝ) : EReal) = 0
  simp

/-- The operations that make the phases. -/
abbrev phaseOps1 : List (HloOp τ sig (Elt Ideal)) :=
  hostOps1 ++ (hostOps1_1 ++ (hostOps1_2 ++ (hostOps1_3 ++ (hostOps1_4 ++ (hostOps1_5 ++ (hostOps1_6 ++ (hostOps1_7 ++ (hostOps1_8 ++ (hostOps1_9)))))))))

set_option maxHeartbeats 4000000 in
/-- Phase 0 at a row and channel. -/
theorem phase1_0 (V : Valuation τ sig (Elt Ideal)) (b : Fin 16) (n : Fin 3320) (ch : Fin 96) :
    after phaseOps1 V (Proc.devRef .tc main_v60) (ix4 b (0 : Fin 4) n ch)
      = phase (unflat (M := 12800) (C := 96) (V (Proc.devRef .tc main_v40)) 113 112) 57 b 0 n ch := by
  after_reads_at
  after_reads_at
  exact phase_of_rows (M := 12800) (C := 96) _ 3249 57 56 113 0 n _ _ b ch _ pad_word1 rfl rfl (by omega) (by omega)

set_option maxHeartbeats 4000000 in
/-- Phase 1 at a row and channel. -/
theorem phase1_1 (V : Valuation τ sig (Elt Ideal)) (b : Fin 16) (n : Fin 3320) (ch : Fin 96) :
    after phaseOps1 V (Proc.devRef .tc main_v60) (ix4 b (1 : Fin 4) n ch)
      = phase (unflat (M := 12800) (C := 96) (V (Proc.devRef .tc main_v40)) 113 112) 57 b 1 n ch := by
  after_reads_at
  after_reads_at
  exact phase_of_rows (M := 12800) (C := 96) _ 3249 57 56 113 1 n _ _ b ch _ pad_word1 rfl rfl (by omega) (by omega)

set_option maxHeartbeats 4000000 in
/-- Phase 2 at a row and channel. -/
theorem phase1_2 (V : Valuation τ sig (Elt Ideal)) (b : Fin 16) (n : Fin 3320) (ch : Fin 96) :
    after phaseOps1 V (Proc.devRef .tc main_v60) (ix4 b (2 : Fin 4) n ch)
      = phase (unflat (M := 12800) (C := 96) (V (Proc.devRef .tc main_v40)) 113 112) 57 b 2 n ch := by
  after_reads_at
  after_reads_at
  exact phase_of_rows (M := 12800) (C := 96) _ 3249 57 56 113 2 n _ _ b ch _ pad_word1 rfl rfl (by omega) (by omega)

set_option maxHeartbeats 4000000 in
/-- Phase 3 at a row and channel. -/
theorem phase1_3 (V : Valuation τ sig (Elt Ideal)) (b : Fin 16) (n : Fin 3320) (ch : Fin 96) :
    after phaseOps1 V (Proc.devRef .tc main_v60) (ix4 b (3 : Fin 4) n ch)
      = phase (unflat (M := 12800) (C := 96) (V (Proc.devRef .tc main_v40)) 113 112) 57 b 3 n ch := by
  after_reads_at
  after_reads_at
  exact phase_of_rows (M := 12800) (C := 96) _ 3249 57 56 113 3 n _ _ b ch _ pad_word1 rfl rfl (by omega) (by omega)

/-- Every phase. -/
theorem phases1 (V : Valuation τ sig (Elt Ideal)) (b : Fin 16) (p : Fin 4) (n : Fin 3320) (ch : Fin 96) :
    after phaseOps1 V (Proc.devRef .tc main_v60) (ix4 b p n ch)
      = phase (unflat (M := 12800) (C := 96) (V (Proc.devRef .tc main_v40)) 113 112) 57 b p n ch :=
  match p with
  | 0 => phase1_0 V b n ch
  | 1 => phase1_1 V b n ch
  | 2 => phase1_2 V b n ch
  | 3 => phase1_3 V b n ch

/-- The weights: tap `t` is row `t / 3`, column `t % 3` of the kernel window. -/
theorem weights1 (V : Valuation τ sig (Elt Ideal)) (t : Fin 9) (ch : Fin 96) (o : Fin 192) :
    after hostOps1_10 V (Proc.devRef .tc main_v62) (ix3 t ch o)
      = at4 (a := 192) (b := 96) (c := 3) (d := 3) (V (Proc.devRef .tc main_arg3)) o ch (t / 3) (t % 3) := by
  after_reads_at
  exact at4_ix (a := 192) (b := 96) (c := 3) (d := 3) _ o ch ⟨t / 3, by omega⟩ ⟨t % 3, by omega⟩

/-- The bias. -/
theorem bias1 (V : Valuation τ sig (Elt Ideal)) (i : Fin 1) (o : Fin 192) :
    after hostOps1_10 V (Proc.devRef .tc main_v63) (ix2 i o) = at1 (a := 192) (V (Proc.devRef .tc main_arg4)) o := by
  after_reads_at
  exact at1_ix (a := 192) _ o

end Cert.KernelIdeal.Ker

end
-- ==== Proof.Ker.Region1.lean ====
/-
  Region 1, read: the flattened convolution of the phases that the region finds.
-/
module

public import proofs.«01_k».proof.Proof.Gen.KernelIdeal.Frame.Region1
public import proofs.«01_k».proof.Proof.Conv.Spec
public import Idealize.ShloMosaic.Lib.Pipeline.ValueKit

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv
open Idealize.ShloMosaic.Pipeline (Dat)

variable (V : (c : Dev nD) → (b : Ref sig .tc) → Buf (Elt Ideal) ((c : Thread nD τ).loc b))

/-- The windows' blocks at each point. -/
theorem idx1 : ∀ t : Fin cfg1.N, win1_0.index t = ![t.val / 11, 0, 0, 0] ∧ win1_1.index t = ![0, 0, 0] ∧ win1_2.index t = ![0, 0]
    ∧ win1_3.index t = ![t.val / 11, t.val % 11, 0] ∧ t.val / 11 < 16 :=
  (by decide +kernel : ∀ t : Fin grid1.N, _)

/-- Where each phase's window of rows starts, at each point. -/
theorem off1 : ∀ t : Fin cfg1.N, k1_off1 (grid1.coords t) = ![0, 0, t.val % 11 * 296, 0]
    ∧ k1_off2 (grid1.coords t) = ![0, 1, t.val % 11 * 296, 0] ∧ k1_off3 (grid1.coords t) = ![0, 2, t.val % 11 * 296, 0]
    ∧ k1_off4 (grid1.coords t) = ![0, 3, t.val % 11 * 296, 0] :=
  (by decide +kernel : ∀ t : Fin grid1.N, _)

/-- The flattened convolution of an array of phases. -/
def REF1 (P : FVec Ideal S16x4x3320x96 .f32) (w : FVec Ideal S9x96x192 .f32) (β : FVec Ideal S1x192 .f32) : FVec Ideal S16x3256x192 .f32 := fun i =>
  fconv (at4 P) (taps9 w) (fun o => at2 β 0 o) 96 57 (i 0) (i 2) (i 1)

/-- The phases' block: one image. -/
theorem images1 (c : Dev nD) (t : Fin cfg1.N) (a : Fin 1) (p : Fin 4) (n : Fin 3320) (ch : Fin 96) :
    iblk1 V c 0 t (ix4 a p n ch) = at4 (a := 16) (b := 4) (c := 3320) (d := 96) (V c main_v60) (t / 11) p n ch := by
  have h := (idx1 t).2.2.2.2
  refine Eq.trans ?_ (at4_ix (a := 16) (b := 4) (c := 3320) (d := 96) (V c main_v60) ⟨t / 11, h⟩ p n ch)
  blk_ext! [iblk1, idx1 t]

/-- The weights' block: the whole array. -/
theorem matrices1 (c : Dev nD) (t : Fin cfg1.N) (q : Fin 9) (ch : Fin 96) (o : Fin 192) (ky kx : ℕ) (h : (q : ℕ) = 3 * ky + kx) :
    iblk1 V c 1 t (ix3 q ch o) = taps9 (C := 96) (O := 192) (V c main_v62) o ch ky kx := by
  refine Eq.trans ?_ (taps9_ix (C := 96) (O := 192) (V c main_v62) q ch o ky kx h)
  blk_ext! [iblk1, idx1 t]

/-- The bias's block: the whole row. -/
theorem row1 (c : Dev nD) (t : Fin cfg1.N) (i : Fin 1) (o : Fin 192) :
    iblk1 V c 2 t (ix2 i o) = at2 (a := 1) (b := 192) (V c main_v63) 0 o := by
  refine Eq.trans ?_ (at2_ix (a := 1) (b := 192) (V c main_v63) 0 o)
  blk_ext! [iblk1, idx1 t]

set_option maxHeartbeats 2000000 in
/-- The region's array after its run. -/
theorem final1 (c : Dev nD) : (dat1 V c).arrAt 3 cfg1.N = REF1 (V c main_v60) (V c main_v62) (V c main_v63) := by
  refine (dat1 V c).arrAt_eq_of_covers 3 _ (by decide +kernel) fun t _ y => ?_
  blk_simp
  rw [after1_3]; unfold outsAt1; frame_out
  obtain ⟨x0, hx0⟩ : ∃ x : Vec Ideal S1x4x3320x96 .f32, x = iblk1 V c 0 t := ⟨_, rfl⟩
  obtain ⟨x1, hx1⟩ : ∃ x : Vec Ideal S9x96x192 .f32, x = iblk1 V c 1 t := ⟨_, rfl⟩
  obtain ⟨x2, hx2⟩ : ∃ x : Vec Ideal S1x192 .f32, x = iblk1 V c 2 t := ⟨_, rfl⟩
  have hA : ∀ (a : Fin 1) (p : Fin 4) (n : Fin 3320) (ch : Fin 96), x0 (ix4 a p n ch) = at4 (a := 16) (b := 4) (c := 3320) (d := 96) (V c main_v60) (t / 11) p n ch := by
    rw [hx0]; exact images1 V c t
  have hW : ∀ (q : Fin 9) (ch : Fin 96) (o : Fin 192) (ky kx : ℕ), (q : ℕ) = 3 * ky + kx → x1 (ix3 q ch o) = taps9 (C := 96) (O := 192) (V c main_v62) o ch ky kx := by
    rw [hx1]; exact matrices1 V c t
  have hB : ∀ (i : Fin 1) (o : Fin 192), x2 (ix2 i o) = at2 (a := 1) (b := 192) (V c main_v63) 0 o := by
    rw [hx2]; exact row1 V c t
  rw [← hx0, ← hx1, ← hx2]
  clear hx0 hx1 hx2
  pointwise [k1_pay1, k1_pay2, k1_pay3, k1_pay4, k1_pay5, k1_pay6, k1_pay7, k1_pay8]
  obtain ⟨o1, o2, o3, o4⟩ := off1 t
  unfold REF1
  blk_simp [idx1 t]
  refine fconv_of_taps ?_ ?_ ?_ ?_ ?_ ?_ ?_ ?_ ?_ (hB 0 (y 2)) <;> unfold ftap <;> refine Finset.sum_congr rfl fun x _ => ?_
  · exact mul_congr ((hA _ _ _ _).trans (read_congr (congrFun o1 1)
      ((congrArg (· + (y 1).val) (congrFun o1 2)).trans (show t.val % 11 * 296 + (y 1).val = t.val % 11 * 296 + (y 1).val + 0 by omega))
      ((congrArg (· + x.val) (congrFun o1 3)).trans (Nat.zero_add _)))) (hW ⟨0, by omega⟩ x (y 2) 0 0 rfl)
  · exact mul_congr ((hA _ _ _ _).trans (read_congr (congrFun o2 1)
      ((congrArg (· + (y 1).val) (congrFun o2 2)).trans (show t.val % 11 * 296 + (y 1).val = t.val % 11 * 296 + (y 1).val + 0 by omega))
      ((congrArg (· + x.val) (congrFun o2 3)).trans (Nat.zero_add _)))) (hW ⟨1, by omega⟩ x (y 2) 0 1 rfl)
  · exact mul_congr ((hA _ _ _ _).trans (read_congr (congrFun o1 1)
      ((congrArg (· + (1 + (y 1).val)) (congrFun o1 2)).trans (show t.val % 11 * 296 + (1 + (y 1).val) = t.val % 11 * 296 + (y 1).val + 1 by omega))
      ((congrArg (· + x.val) (congrFun o1 3)).trans (Nat.zero_add _)))) (hW ⟨2, by omega⟩ x (y 2) 0 2 rfl)
  · exact mul_congr ((hA _ _ _ _).trans (read_congr (congrFun o3 1)
      ((congrArg (· + (y 1).val) (congrFun o3 2)).trans (show t.val % 11 * 296 + (y 1).val = t.val % 11 * 296 + (y 1).val + 0 by omega))
      ((congrArg (· + x.val) (congrFun o3 3)).trans (Nat.zero_add _)))) (hW ⟨3, by omega⟩ x (y 2) 1 0 rfl)
  · exact mul_congr ((hA _ _ _ _).trans (read_congr (congrFun o4 1)
      ((congrArg (· + (y 1).val) (congrFun o4 2)).trans (show t.val % 11 * 296 + (y 1).val = t.val % 11 * 296 + (y 1).val + 0 by omega))
      ((congrArg (· + x.val) (congrFun o4 3)).trans (Nat.zero_add _)))) (hW ⟨4, by omega⟩ x (y 2) 1 1 rfl)
  · exact mul_congr ((hA _ _ _ _).trans (read_congr (congrFun o3 1)
      ((congrArg (· + (1 + (y 1).val)) (congrFun o3 2)).trans (show t.val % 11 * 296 + (1 + (y 1).val) = t.val % 11 * 296 + (y 1).val + 1 by omega))
      ((congrArg (· + x.val) (congrFun o3 3)).trans (Nat.zero_add _)))) (hW ⟨5, by omega⟩ x (y 2) 1 2 rfl)
  · exact mul_congr ((hA _ _ _ _).trans (read_congr (congrFun o1 1)
      ((congrArg (· + (57 + (y 1).val)) (congrFun o1 2)).trans (show t.val % 11 * 296 + (57 + (y 1).val) = t.val % 11 * 296 + (y 1).val + 57 by omega))
      ((congrArg (· + x.val) (congrFun o1 3)).trans (Nat.zero_add _)))) (hW ⟨6, by omega⟩ x (y 2) 2 0 rfl)
  · exact mul_congr ((hA _ _ _ _).trans (read_congr (congrFun o2 1)
      ((congrArg (· + (57 + (y 1).val)) (congrFun o2 2)).trans (show t.val % 11 * 296 + (57 + (y 1).val) = t.val % 11 * 296 + (y 1).val + 57 by omega))
      ((congrArg (· + x.val) (congrFun o2 3)).trans (Nat.zero_add _)))) (hW ⟨7, by omega⟩ x (y 2) 2 1 rfl)
  · exact mul_congr ((hA _ _ _ _).trans (read_congr (congrFun o1 1)
      ((congrArg (· + (58 + (y 1).val)) (congrFun o1 2)).trans (show t.val % 11 * 296 + (58 + (y 1).val) = t.val % 11 * 296 + (y 1).val + (57 + 1) by omega))
      ((congrArg (· + x.val) (congrFun o1 3)).trans (Nat.zero_add _)))) (hW ⟨8, by omega⟩ x (y 2) 2 2 rfl)

end Cert.KernelIdeal.Ker

end
-- ==== Proof.Ker.Chain1.lean ====
/-
  The kernel's level 1: the operations before region 1, the region, and what its array holds.
-/
module

public import proofs.«01_k».proof.Proof.Ker.Chain0
public import proofs.«01_k».proof.Proof.Ker.Host1
public import proofs.«01_k».proof.Proof.Ker.Region1

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

variable (m : (ℓ : Loc nD τ sig) → Buf (Elt Ideal) ℓ) (ρ : Dev nD → PrngReg)

/-- The contents where the phases stand. -/
theorem W22_phases (c : Dev nD) : W22 m ρ c = after phaseOps1 (W12 m ρ c) := by
  rw [after_pair, after_pair, after_pair, after_pair, after_pair, after_pair, after_pair, after_pair, after_pair]

/-- The region's result over typed arrays. -/
theorem level1_of {P : FVec Ideal S16x4x3320x96 .f32} {w : FVec Ideal S9x96x192 .f32} {β : FVec Ideal S1x192 .f32}
    {X : Nat4} {K : FVec Ideal S192x96x3x3 .f32} {B : FVec Ideal S192 .f32}
    (hP : ∀ (b : Fin 16) (p : Fin 4) (n : Fin 3320) (ch : Fin 96), P (ix4 b p n ch) = phase X 57 b p n ch)
    (hw : ∀ (t : Fin 9) (ch : Fin 96) (o : Fin 192), w (ix3 t ch o) = at4 K o ch (t / 3) (t % 3))
    (hβ : ∀ (i : Fin 1) (o : Fin 192), β (ix2 i o) = at1 B o) :
    unflat (REF1 P w β) 57 56 = level X (at4 K) (at1 B) 96 192 56 := by
  refine unflat_level (by norm_num) fun b n o => ?_
  show fconv (at4 P) (taps9 w) (fun o => at2 β 0 o) 96 57 b o n = _
  exact fconv_congr (M := 3320) (by omega) (by omega) (phases_of hP b b.2) (taps9_of hw o o.2) (row_of hβ o o.2)

/-- After region 1: the level of the arguments and the level below. -/
theorem after_region1 (c : Dev nD) : unflat (M := 3256) (C := 192) (W24 m ρ c (Proc.devRef .tc main_v64)) 57 56
    = level (unflat (M := 12800) (C := 96) (W12 m ρ c (Proc.devRef .tc main_v40)) 113 112)
      (at4 (a := 192) (b := 96) (c := 3) (d := 3) (m ((c.tc : Thread nD τ).loc main_arg3)))
      (at1 (a := 192) (m ((c.tc : Thread nD τ).loc main_arg4))) 96 192 56 := by
  have e : W24 m ρ c (Proc.devRef .tc main_v64) = REF1 (W23 m ρ c (Proc.devRef .tc main_v60)) (W23 m ρ c (Proc.devRef .tc main_v62)) (W23 m ρ c (Proc.devRef .tc main_v63)) :=
    (W24_arr m ρ c 3).trans (final1 (V23 m ρ) c)
  have hP := phases1 (W12 m ρ c)
  rw [← W22_phases m ρ c] at hP
  have hk : W23 m ρ c (Proc.devRef .tc main_v60) = W22 m ρ c (Proc.devRef .tc main_v60) := W23_of m ρ c main_v60 (by decide)
  rw [← hk] at hP
  have hw := weights1 (W22 m ρ c)
  rw [W22_args m ρ c main_arg3 (by decide)] at hw
  have hb := bias1 (W22 m ρ c)
  rw [W22_args m ρ c main_arg4 (by decide)] at hb
  rw [e]
  exact level1_of (P := W23 m ρ c (Proc.devRef .tc main_v60)) hP hw hb

end Cert.KernelIdeal.Ker

end
-- ==== Proof.Ker.Host2.lean ====
/-
  The host operations before region 2: the four phases of the level below, flattened and padded; the weights as nine
  matrices; the bias as a row.
-/
module

public import proofs.«01_k».proof.Proof.Gen.KernelIdeal.Launch
public import proofs.«01_k».proof.Proof.Conv.Spec
public import Idealize.ShloMosaic.Lib.StableHlo.ReadAt

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

/-- The padding value of this stretch: the word zero made a float. -/
theorem pad_word2 : (FloatOps.sitofp (F := Ideal) FTy.f32 0#32 : EReal) = 0 := by
  show (((0#32 : BitVec 32).toInt : ℝ) : EReal) = 0
  simp

/-- The operations that make the phases. -/
abbrev phaseOps2 : List (HloOp τ sig (Elt Ideal)) :=
  hostOps2 ++ (hostOps2_1 ++ (hostOps2_2 ++ (hostOps2_3 ++ (hostOps2_4 ++ (hostOps2_5 ++ (hostOps2_6 ++ (hostOps2_7 ++ (hostOps2_8 ++ (hostOps2_9)))))))))

set_option maxHeartbeats 4000000 in
/-- Phase 0 at a row and channel. -/
theorem phase2_0 (V : Valuation τ sig (Elt Ideal)) (b : Fin 16) (n : Fin 880) (ch : Fin 192) :
    after phaseOps2 V (Proc.devRef .tc main_v84) (ix4 b (0 : Fin 4) n ch)
      = phase (unflat (M := 3256) (C := 192) (V (Proc.devRef .tc main_v64)) 57 56) 29 b 0 n ch := by
  after_reads_at
  after_reads_at
  exact phase_of_rows (M := 3256) (C := 192) _ 841 29 28 57 0 n _ _ b ch _ pad_word2 rfl rfl (by omega) (by omega)

set_option maxHeartbeats 4000000 in
/-- Phase 1 at a row and channel. -/
theorem phase2_1 (V : Valuation τ sig (Elt Ideal)) (b : Fin 16) (n : Fin 880) (ch : Fin 192) :
    after phaseOps2 V (Proc.devRef .tc main_v84) (ix4 b (1 : Fin 4) n ch)
      = phase (unflat (M := 3256) (C := 192) (V (Proc.devRef .tc main_v64)) 57 56) 29 b 1 n ch := by
  after_reads_at
  after_reads_at
  exact phase_of_rows (M := 3256) (C := 192) _ 841 29 28 57 1 n _ _ b ch _ pad_word2 rfl rfl (by omega) (by omega)

set_option maxHeartbeats 4000000 in
/-- Phase 2 at a row and channel. -/
theorem phase2_2 (V : Valuation τ sig (Elt Ideal)) (b : Fin 16) (n : Fin 880) (ch : Fin 192) :
    after phaseOps2 V (Proc.devRef .tc main_v84) (ix4 b (2 : Fin 4) n ch)
      = phase (unflat (M := 3256) (C := 192) (V (Proc.devRef .tc main_v64)) 57 56) 29 b 2 n ch := by
  after_reads_at
  after_reads_at
  exact phase_of_rows (M := 3256) (C := 192) _ 841 29 28 57 2 n _ _ b ch _ pad_word2 rfl rfl (by omega) (by omega)

set_option maxHeartbeats 4000000 in
/-- Phase 3 at a row and channel. -/
theorem phase2_3 (V : Valuation τ sig (Elt Ideal)) (b : Fin 16) (n : Fin 880) (ch : Fin 192) :
    after phaseOps2 V (Proc.devRef .tc main_v84) (ix4 b (3 : Fin 4) n ch)
      = phase (unflat (M := 3256) (C := 192) (V (Proc.devRef .tc main_v64)) 57 56) 29 b 3 n ch := by
  after_reads_at
  after_reads_at
  exact phase_of_rows (M := 3256) (C := 192) _ 841 29 28 57 3 n _ _ b ch _ pad_word2 rfl rfl (by omega) (by omega)

/-- Every phase. -/
theorem phases2 (V : Valuation τ sig (Elt Ideal)) (b : Fin 16) (p : Fin 4) (n : Fin 880) (ch : Fin 192) :
    after phaseOps2 V (Proc.devRef .tc main_v84) (ix4 b p n ch)
      = phase (unflat (M := 3256) (C := 192) (V (Proc.devRef .tc main_v64)) 57 56) 29 b p n ch :=
  match p with
  | 0 => phase2_0 V b n ch
  | 1 => phase2_1 V b n ch
  | 2 => phase2_2 V b n ch
  | 3 => phase2_3 V b n ch

/-- The weights: tap `t` is row `t / 3`, column `t % 3` of the kernel window. -/
theorem weights2 (V : Valuation τ sig (Elt Ideal)) (t : Fin 9) (ch : Fin 192) (o : Fin 384) :
    after hostOps2_10 V (Proc.devRef .tc main_v86) (ix3 t ch o)
      = at4 (a := 384) (b := 192) (c := 3) (d := 3) (V (Proc.devRef .tc main_arg5)) o ch (t / 3) (t % 3) := by
  after_reads_at
  exact at4_ix (a := 384) (b := 192) (c := 3) (d := 3) _ o ch ⟨t / 3, by omega⟩ ⟨t % 3, by omega⟩

/-- The bias. -/
theorem bias2 (V : Valuation τ sig (Elt Ideal)) (i : Fin 1) (o : Fin 384) :
    after hostOps2_10 V (Proc.devRef .tc main_v87) (ix2 i o) = at1 (a := 384) (V (Proc.devRef .tc main_arg6)) o := by
  after_reads_at
  exact at1_ix (a := 384) _ o

end Cert.KernelIdeal.Ker

end
-- ==== Proof.Ker.Region2.lean ====
/-
  Region 2, read: the flattened convolution of the phases that the region finds.
-/
module

public import proofs.«01_k».proof.Proof.Gen.KernelIdeal.Frame.Region2
public import proofs.«01_k».proof.Proof.Conv.Spec
public import Idealize.ShloMosaic.Lib.Pipeline.ValueKit

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv
open Idealize.ShloMosaic.Pipeline (Dat)

variable (V : (c : Dev nD) → (b : Ref sig .tc) → Buf (Elt Ideal) ((c : Thread nD τ).loc b))

/-- The windows' blocks at each point. -/
theorem idx2 : ∀ t : Fin cfg2.N, win2_0.index t = ![t.val / 6, 0, 0, 0] ∧ win2_1.index t = ![0, 0, 0] ∧ win2_2.index t = ![0, 0]
    ∧ win2_3.index t = ![t.val / 6, t.val % 6, 0] ∧ t.val / 6 < 16 :=
  (by decide +kernel : ∀ t : Fin grid2.N, _)

/-- Where each phase's window of rows starts, at each point. -/
theorem off2 : ∀ t : Fin cfg2.N, k2_off1 (grid2.coords t) = ![0, 0, t.val % 6 * 136, 0]
    ∧ k2_off2 (grid2.coords t) = ![0, 1, t.val % 6 * 136, 0] ∧ k2_off3 (grid2.coords t) = ![0, 2, t.val % 6 * 136, 0]
    ∧ k2_off4 (grid2.coords t) = ![0, 3, t.val % 6 * 136, 0] :=
  (by decide +kernel : ∀ t : Fin grid2.N, _)

/-- The flattened convolution of an array of phases. -/
def REF2 (P : FVec Ideal S16x4x880x192 .f32) (w : FVec Ideal S9x192x384 .f32) (β : FVec Ideal S1x384 .f32) : FVec Ideal S16x816x384 .f32 := fun i =>
  fconv (at4 P) (taps9 w) (fun o => at2 β 0 o) 192 29 (i 0) (i 2) (i 1)

/-- The phases' block: one image. -/
theorem images2 (c : Dev nD) (t : Fin cfg2.N) (a : Fin 1) (p : Fin 4) (n : Fin 880) (ch : Fin 192) :
    iblk2 V c 0 t (ix4 a p n ch) = at4 (a := 16) (b := 4) (c := 880) (d := 192) (V c main_v84) (t / 6) p n ch := by
  have h := (idx2 t).2.2.2.2
  refine Eq.trans ?_ (at4_ix (a := 16) (b := 4) (c := 880) (d := 192) (V c main_v84) ⟨t / 6, h⟩ p n ch)
  blk_ext! [iblk2, idx2 t]

/-- The weights' block: the whole array. -/
theorem matrices2 (c : Dev nD) (t : Fin cfg2.N) (q : Fin 9) (ch : Fin 192) (o : Fin 384) (ky kx : ℕ) (h : (q : ℕ) = 3 * ky + kx) :
    iblk2 V c 1 t (ix3 q ch o) = taps9 (C := 192) (O := 384) (V c main_v86) o ch ky kx := by
  refine Eq.trans ?_ (taps9_ix (C := 192) (O := 384) (V c main_v86) q ch o ky kx h)
  blk_ext! [iblk2, idx2 t]

/-- The bias's block: the whole row. -/
theorem row2 (c : Dev nD) (t : Fin cfg2.N) (i : Fin 1) (o : Fin 384) :
    iblk2 V c 2 t (ix2 i o) = at2 (a := 1) (b := 384) (V c main_v87) 0 o := by
  refine Eq.trans ?_ (at2_ix (a := 1) (b := 384) (V c main_v87) 0 o)
  blk_ext! [iblk2, idx2 t]

set_option maxHeartbeats 2000000 in
/-- The region's array after its run. -/
theorem final2 (c : Dev nD) : (dat2 V c).arrAt 3 cfg2.N = REF2 (V c main_v84) (V c main_v86) (V c main_v87) := by
  refine (dat2 V c).arrAt_eq_of_covers 3 _ (by decide +kernel) fun t _ y => ?_
  blk_simp
  rw [after2_3]; unfold outsAt2; frame_out
  obtain ⟨x0, hx0⟩ : ∃ x : Vec Ideal S1x4x880x192 .f32, x = iblk2 V c 0 t := ⟨_, rfl⟩
  obtain ⟨x1, hx1⟩ : ∃ x : Vec Ideal S9x192x384 .f32, x = iblk2 V c 1 t := ⟨_, rfl⟩
  obtain ⟨x2, hx2⟩ : ∃ x : Vec Ideal S1x384 .f32, x = iblk2 V c 2 t := ⟨_, rfl⟩
  have hA : ∀ (a : Fin 1) (p : Fin 4) (n : Fin 880) (ch : Fin 192), x0 (ix4 a p n ch) = at4 (a := 16) (b := 4) (c := 880) (d := 192) (V c main_v84) (t / 6) p n ch := by
    rw [hx0]; exact images2 V c t
  have hW : ∀ (q : Fin 9) (ch : Fin 192) (o : Fin 384) (ky kx : ℕ), (q : ℕ) = 3 * ky + kx → x1 (ix3 q ch o) = taps9 (C := 192) (O := 384) (V c main_v86) o ch ky kx := by
    rw [hx1]; exact matrices2 V c t
  have hB : ∀ (i : Fin 1) (o : Fin 384), x2 (ix2 i o) = at2 (a := 1) (b := 384) (V c main_v87) 0 o := by
    rw [hx2]; exact row2 V c t
  rw [← hx0, ← hx1, ← hx2]
  clear hx0 hx1 hx2
  pointwise [k2_pay1, k2_pay2, k2_pay3, k2_pay4, k2_pay5, k2_pay6, k2_pay7, k2_pay8]
  obtain ⟨o1, o2, o3, o4⟩ := off2 t
  unfold REF2
  blk_simp [idx2 t]
  refine fconv_of_taps ?_ ?_ ?_ ?_ ?_ ?_ ?_ ?_ ?_ (hB 0 (y 2)) <;> unfold ftap <;> refine Finset.sum_congr rfl fun x _ => ?_
  · exact mul_congr ((hA _ _ _ _).trans (read_congr (congrFun o1 1)
      ((congrArg (· + (y 1).val) (congrFun o1 2)).trans (show t.val % 6 * 136 + (y 1).val = t.val % 6 * 136 + (y 1).val + 0 by omega))
      ((congrArg (· + x.val) (congrFun o1 3)).trans (Nat.zero_add _)))) (hW ⟨0, by omega⟩ x (y 2) 0 0 rfl)
  · exact mul_congr ((hA _ _ _ _).trans (read_congr (congrFun o2 1)
      ((congrArg (· + (y 1).val) (congrFun o2 2)).trans (show t.val % 6 * 136 + (y 1).val = t.val % 6 * 136 + (y 1).val + 0 by omega))
      ((congrArg (· + x.val) (congrFun o2 3)).trans (Nat.zero_add _)))) (hW ⟨1, by omega⟩ x (y 2) 0 1 rfl)
  · exact mul_congr ((hA _ _ _ _).trans (read_congr (congrFun o1 1)
      ((congrArg (· + (1 + (y 1).val)) (congrFun o1 2)).trans (show t.val % 6 * 136 + (1 + (y 1).val) = t.val % 6 * 136 + (y 1).val + 1 by omega))
      ((congrArg (· + x.val) (congrFun o1 3)).trans (Nat.zero_add _)))) (hW ⟨2, by omega⟩ x (y 2) 0 2 rfl)
  · exact mul_congr ((hA _ _ _ _).trans (read_congr (congrFun o3 1)
      ((congrArg (· + (y 1).val) (congrFun o3 2)).trans (show t.val % 6 * 136 + (y 1).val = t.val % 6 * 136 + (y 1).val + 0 by omega))
      ((congrArg (· + x.val) (congrFun o3 3)).trans (Nat.zero_add _)))) (hW ⟨3, by omega⟩ x (y 2) 1 0 rfl)
  · exact mul_congr ((hA _ _ _ _).trans (read_congr (congrFun o4 1)
      ((congrArg (· + (y 1).val) (congrFun o4 2)).trans (show t.val % 6 * 136 + (y 1).val = t.val % 6 * 136 + (y 1).val + 0 by omega))
      ((congrArg (· + x.val) (congrFun o4 3)).trans (Nat.zero_add _)))) (hW ⟨4, by omega⟩ x (y 2) 1 1 rfl)
  · exact mul_congr ((hA _ _ _ _).trans (read_congr (congrFun o3 1)
      ((congrArg (· + (1 + (y 1).val)) (congrFun o3 2)).trans (show t.val % 6 * 136 + (1 + (y 1).val) = t.val % 6 * 136 + (y 1).val + 1 by omega))
      ((congrArg (· + x.val) (congrFun o3 3)).trans (Nat.zero_add _)))) (hW ⟨5, by omega⟩ x (y 2) 1 2 rfl)
  · exact mul_congr ((hA _ _ _ _).trans (read_congr (congrFun o1 1)
      ((congrArg (· + (29 + (y 1).val)) (congrFun o1 2)).trans (show t.val % 6 * 136 + (29 + (y 1).val) = t.val % 6 * 136 + (y 1).val + 29 by omega))
      ((congrArg (· + x.val) (congrFun o1 3)).trans (Nat.zero_add _)))) (hW ⟨6, by omega⟩ x (y 2) 2 0 rfl)
  · exact mul_congr ((hA _ _ _ _).trans (read_congr (congrFun o2 1)
      ((congrArg (· + (29 + (y 1).val)) (congrFun o2 2)).trans (show t.val % 6 * 136 + (29 + (y 1).val) = t.val % 6 * 136 + (y 1).val + 29 by omega))
      ((congrArg (· + x.val) (congrFun o2 3)).trans (Nat.zero_add _)))) (hW ⟨7, by omega⟩ x (y 2) 2 1 rfl)
  · exact mul_congr ((hA _ _ _ _).trans (read_congr (congrFun o1 1)
      ((congrArg (· + (30 + (y 1).val)) (congrFun o1 2)).trans (show t.val % 6 * 136 + (30 + (y 1).val) = t.val % 6 * 136 + (y 1).val + (29 + 1) by omega))
      ((congrArg (· + x.val) (congrFun o1 3)).trans (Nat.zero_add _)))) (hW ⟨8, by omega⟩ x (y 2) 2 2 rfl)

end Cert.KernelIdeal.Ker

end
-- ==== Proof.Ker.Chain2.lean ====
/-
  The kernel's level 2: the operations before region 2, the region, and what its array holds.
-/
module

public import proofs.«01_k».proof.Proof.Ker.Chain1
public import proofs.«01_k».proof.Proof.Ker.Host2
public import proofs.«01_k».proof.Proof.Ker.Region2

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

variable (m : (ℓ : Loc nD τ sig) → Buf (Elt Ideal) ℓ) (ρ : Dev nD → PrngReg)

/-- The contents where the phases stand. -/
theorem W34_phases (c : Dev nD) : W34 m ρ c = after phaseOps2 (W24 m ρ c) := by
  rw [after_pair, after_pair, after_pair, after_pair, after_pair, after_pair, after_pair, after_pair, after_pair]

/-- The region's result over typed arrays. -/
theorem level2_of {P : FVec Ideal S16x4x880x192 .f32} {w : FVec Ideal S9x192x384 .f32} {β : FVec Ideal S1x384 .f32}
    {X : Nat4} {K : FVec Ideal S384x192x3x3 .f32} {B : FVec Ideal S384 .f32}
    (hP : ∀ (b : Fin 16) (p : Fin 4) (n : Fin 880) (ch : Fin 192), P (ix4 b p n ch) = phase X 29 b p n ch)
    (hw : ∀ (t : Fin 9) (ch : Fin 192) (o : Fin 384), w (ix3 t ch o) = at4 K o ch (t / 3) (t % 3))
    (hβ : ∀ (i : Fin 1) (o : Fin 384), β (ix2 i o) = at1 B o) :
    unflat (REF2 P w β) 29 28 = level X (at4 K) (at1 B) 192 384 28 := by
  refine unflat_level (by norm_num) fun b n o => ?_
  show fconv (at4 P) (taps9 w) (fun o => at2 β 0 o) 192 29 b o n = _
  exact fconv_congr (M := 880) (by omega) (by omega) (phases_of hP b b.2) (taps9_of hw o o.2) (row_of hβ o o.2)

/-- After region 2: the level of the arguments and the level below. -/
theorem after_region2 (c : Dev nD) : unflat (M := 816) (C := 384) (W36 m ρ c (Proc.devRef .tc main_v88)) 29 28
    = level (unflat (M := 3256) (C := 192) (W24 m ρ c (Proc.devRef .tc main_v64)) 57 56)
      (at4 (a := 384) (b := 192) (c := 3) (d := 3) (m ((c.tc : Thread nD τ).loc main_arg5)))
      (at1 (a := 384) (m ((c.tc : Thread nD τ).loc main_arg6))) 192 384 28 := by
  have e : W36 m ρ c (Proc.devRef .tc main_v88) = REF2 (W35 m ρ c (Proc.devRef .tc main_v84)) (W35 m ρ c (Proc.devRef .tc main_v86)) (W35 m ρ c (Proc.devRef .tc main_v87)) :=
    (W36_arr m ρ c 3).trans (final2 (V35 m ρ) c)
  have hP := phases2 (W24 m ρ c)
  rw [← W34_phases m ρ c] at hP
  have hk : W35 m ρ c (Proc.devRef .tc main_v84) = W34 m ρ c (Proc.devRef .tc main_v84) := W35_of m ρ c main_v84 (by decide)
  rw [← hk] at hP
  have hw := weights2 (W34 m ρ c)
  rw [W34_args m ρ c main_arg5 (by decide)] at hw
  have hb := bias2 (W34 m ρ c)
  rw [W34_args m ρ c main_arg6 (by decide)] at hb
  rw [e]
  exact level2_of (P := W35 m ρ c (Proc.devRef .tc main_v84)) hP hw hb

end Cert.KernelIdeal.Ker

end
-- ==== Proof.Ker.Host3.lean ====
/-
  The host operations before region 3: the four phases of the level below, flattened and padded; the weights as nine
  matrices; the bias as a row.
-/
module

public import proofs.«01_k».proof.Proof.Gen.KernelIdeal.Launch
public import proofs.«01_k».proof.Proof.Conv.Spec
public import Idealize.ShloMosaic.Lib.StableHlo.ReadAt

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

/-- The padding value of this stretch: the word zero made a float. -/
theorem pad_word3 : (FloatOps.sitofp (F := Ideal) FTy.f32 0#32 : EReal) = 0 := by
  show (((0#32 : BitVec 32).toInt : ℝ) : EReal) = 0
  simp

/-- The operations that make the phases. -/
abbrev phaseOps3 : List (HloOp τ sig (Elt Ideal)) :=
  hostOps3 ++ (hostOps3_1 ++ (hostOps3_2 ++ (hostOps3_3 ++ (hostOps3_4 ++ (hostOps3_5 ++ (hostOps3_6 ++ (hostOps3_7 ++ (hostOps3_8 ++ (hostOps3_9)))))))))

set_option maxHeartbeats 4000000 in
/-- Phase 0 at a row and channel. -/
theorem phase3_0 (V : Valuation τ sig (Elt Ideal)) (b : Fin 16) (n : Fin 248) (ch : Fin 384) :
    after phaseOps3 V (Proc.devRef .tc main_v108) (ix4 b (0 : Fin 4) n ch)
      = phase (unflat (M := 816) (C := 384) (V (Proc.devRef .tc main_v88)) 29 28) 15 b 0 n ch := by
  after_reads_at
  after_reads_at
  exact phase_of_rows (M := 816) (C := 384) _ 225 15 14 29 0 n _ _ b ch _ pad_word3 rfl rfl (by omega) (by omega)

set_option maxHeartbeats 4000000 in
/-- Phase 1 at a row and channel. -/
theorem phase3_1 (V : Valuation τ sig (Elt Ideal)) (b : Fin 16) (n : Fin 248) (ch : Fin 384) :
    after phaseOps3 V (Proc.devRef .tc main_v108) (ix4 b (1 : Fin 4) n ch)
      = phase (unflat (M := 816) (C := 384) (V (Proc.devRef .tc main_v88)) 29 28) 15 b 1 n ch := by
  after_reads_at
  after_reads_at
  exact phase_of_rows (M := 816) (C := 384) _ 225 15 14 29 1 n _ _ b ch _ pad_word3 rfl rfl (by omega) (by omega)

set_option maxHeartbeats 4000000 in
/-- Phase 2 at a row and channel. -/
theorem phase3_2 (V : Valuation τ sig (Elt Ideal)) (b : Fin 16) (n : Fin 248) (ch : Fin 384) :
    after phaseOps3 V (Proc.devRef .tc main_v108) (ix4 b (2 : Fin 4) n ch)
      = phase (unflat (M := 816) (C := 384) (V (Proc.devRef .tc main_v88)) 29 28) 15 b 2 n ch := by
  after_reads_at
  after_reads_at
  exact phase_of_rows (M := 816) (C := 384) _ 225 15 14 29 2 n _ _ b ch _ pad_word3 rfl rfl (by omega) (by omega)

set_option maxHeartbeats 4000000 in
/-- Phase 3 at a row and channel. -/
theorem phase3_3 (V : Valuation τ sig (Elt Ideal)) (b : Fin 16) (n : Fin 248) (ch : Fin 384) :
    after phaseOps3 V (Proc.devRef .tc main_v108) (ix4 b (3 : Fin 4) n ch)
      = phase (unflat (M := 816) (C := 384) (V (Proc.devRef .tc main_v88)) 29 28) 15 b 3 n ch := by
  after_reads_at
  after_reads_at
  exact phase_of_rows (M := 816) (C := 384) _ 225 15 14 29 3 n _ _ b ch _ pad_word3 rfl rfl (by omega) (by omega)

/-- Every phase. -/
theorem phases3 (V : Valuation τ sig (Elt Ideal)) (b : Fin 16) (p : Fin 4) (n : Fin 248) (ch : Fin 384) :
    after phaseOps3 V (Proc.devRef .tc main_v108) (ix4 b p n ch)
      = phase (unflat (M := 816) (C := 384) (V (Proc.devRef .tc main_v88)) 29 28) 15 b p n ch :=
  match p with
  | 0 => phase3_0 V b n ch
  | 1 => phase3_1 V b n ch
  | 2 => phase3_2 V b n ch
  | 3 => phase3_3 V b n ch

/-- The weights: tap `t` is row `t / 3`, column `t % 3` of the kernel window. -/
theorem weights3 (V : Valuation τ sig (Elt Ideal)) (t : Fin 9) (ch : Fin 384) (o : Fin 768) :
    after hostOps3_10 V (Proc.devRef .tc main_v113) (ix3 t ch o)
      = at4 (a := 768) (b := 384) (c := 3) (d := 3) (V (Proc.devRef .tc main_arg7)) o ch (t / 3) (t % 3) := by
  after_reads_at
  exact at4_ix (a := 768) (b := 384) (c := 3) (d := 3) _ o ch ⟨t / 3, by omega⟩ ⟨t % 3, by omega⟩

/-- The bias. -/
theorem bias3 (V : Valuation τ sig (Elt Ideal)) (i : Fin 1) (o : Fin 768) :
    after hostOps3_10 V (Proc.devRef .tc main_v114) (ix2 i o) = at1 (a := 768) (V (Proc.devRef .tc main_arg8)) o := by
  after_reads_at
  exact at1_ix (a := 768) _ o

/-- The phases regrouped: eight images side by side, 248 rows each. -/
theorem grouped3 (V : Valuation τ sig (Elt Ideal)) (g : Fin 2) (p : Fin 4) (n : Fin 1984) (ch : Fin 384) :
    after hostOps3_10 V (Proc.devRef .tc main_v111) (ix4 g p n ch)
      = V (Proc.devRef .tc main_v108) (ix4 (⟨g * 8 + n / 248, by omega⟩ : Fin 16) p (⟨n % 248, by omega⟩ : Fin 248) ch) := by
  after_reads_at

end Cert.KernelIdeal.Ker

end
-- ==== Proof.Ker.Region3.lean ====
/-
  Region 3, read: the last convolution, averaged over its positions.
-/
module

public import proofs.«01_k».proof.Proof.Gen.KernelIdeal.Frame.Region3
public import proofs.«01_k».proof.Proof.Conv.Spec
public import Idealize.ShloMosaic.Lib.Pipeline.ValueKit

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv
open Idealize.ShloMosaic.Pipeline (Dat)

/-- Which rows of a window are positions of the image. -/
theorem mask3 : ∀ n : Fin 232, k3_pay1 (ix2 n (0 : Fin 1)) = if n.val % 15 ≠ 14 ∧ n.val < 210 then 1#1 else 0#1 := by
  decide +kernel

/-- The mean over an image's positions, of the flattened convolution of its phases. -/
def mean3 (P w : Nat4) (β : ℕ → EReal) (b o : ℕ) : EReal :=
  (∑ n : Fin 232, if n.val % 15 ≠ 14 ∧ n.val < 210 then fconv P w β 384 15 b o n else 0) * (Named.named (F := Ideal) (φ := .f32) κ "inv196" 0x3BA72F05#32 : Ideal .f32)

/-- A choice by the mask, summed. -/
theorem mean3_of {P w : Nat4} {β : ℕ → EReal} {b o : ℕ} {f : Fin 232 → EReal} (h : ∀ n : Fin 232, f n = fconv P w β 384 15 b o n) :
    (∑ n : Fin 232, Scalar.select (k3_pay1 (ix2 n (0 : Fin 1))) (f n) (0 : EReal)) * (Named.named (F := Ideal) (φ := .f32) κ "inv196" 0x3BA72F05#32 : Ideal .f32) = mean3 P w β b o := by
  unfold mean3
  congr 1
  refine Finset.sum_congr rfl fun n _ => ?_
  rw [mask3, h]
  split <;> rfl

/-- One product of a window of rows, read in place, by half a weight matrix. -/
theorem product3 {x0 : Vec Ideal S1x4x1984x384 .f32} {x1 : Vec Ideal S9x384x768 .f32} {P w : Nat4} {G : ℕ}
    (hA : ∀ (i : ℕ) (hi : i < 8) (p : Fin 4) (n : ℕ) (hn : n < 248) (ch : Fin 384), x0 (ix4 0 p ⟨i * 248 + n, by omega⟩ ch) = P (G + i) p n ch)
    (hW : ∀ (q : Fin 9) (ch : Fin 384) (o : Fin 768) (ky kx : ℕ), (q : ℕ) = 3 * ky + kx → x1 (ix3 q ch o) = w o ch ky kx)
    (i o n s ky kx : ℕ) (hi : i < 8) (p : Fin 4) (m : Fin 1984) (q : Fin 9) (z : Fin 768)
    (hm : (m : ℕ) = i * 248 + (n + s)) (hn : n + s < 248) (hq : (q : ℕ) = 3 * ky + kx) (hz : (z : ℕ) = o) :
    (∑ x : Fin 384, (x0 (ix4 0 p m x) : EReal) * (x1 (ix3 q x z) : EReal)) = ftap P w 384 (G + i) o n p s ky kx := by
  unfold ftap
  refine Finset.sum_congr rfl fun x _ => ?_
  rw [hW q x z ky kx hq, hz, show m = ⟨i * 248 + (n + s), by omega⟩ from Fin.ext hm, hA i hi p (n + s) hn x]

set_option maxHeartbeats 4000000 in
/-- What the body leaves. -/
theorem body3 (x0 : Vec Ideal S1x4x1984x384 .f32) (x1 : Vec Ideal S9x384x768 .f32) (x2 : Vec Ideal S1x768 .f32) (P w : Nat4) (β : ℕ → EReal) (G : ℕ)
    (hA : ∀ (i : ℕ) (hi : i < 8) (p : Fin 4) (n : ℕ) (hn : n < 248) (ch : Fin 384), x0 (ix4 0 p ⟨i * 248 + n, by omega⟩ ch) = P (G + i) p n ch)
    (hW : ∀ (q : Fin 9) (ch : Fin 384) (o : Fin 768) (ky kx : ℕ), (q : ℕ) = 3 * ky + kx → x1 (ix3 q ch o) = w o ch ky kx)
    (hB : ∀ o : Fin 768, x2 (ix2 0 o) = β o) (y : S8x768.Idx) :
    out3_3 (F := Ideal) x0 x1 x2 y = mean3 P w β (G + y 0) (y 1) := by
  have hy : (y 0 : ℕ) < 8 := (y 0).2
  canon_tiles x h
  all_goals
    unfold k3_pay84
    pointwise [k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83]
    refine mean3_of fun n => ?_
    refine fconv_of_taps ?_ ?_ ?_ ?_ ?_ ?_ ?_ ?_ ?_ ((hB _).trans (congrArg β ?_))
    rotate_left 9
    · show _ = (y 1 : ℕ)
      exact h1.symm
    all_goals
      refine product3 hA hW _ _ _ _ _ _ hy _ _ _ _ ?_ ?_ rfl ?_
      all_goals first | omega | (dsimp only; omega)

variable (V : (c : Dev nD) → (b : Ref sig .tc) → Buf (Elt Ideal) ((c : Thread nD τ).loc b))

/-- The windows' blocks at each point. -/
theorem idx3 : ∀ t : Fin cfg3.N, win3_0.index t = ![t.val, 0, 0, 0] ∧ win3_1.index t = ![0, 0, 0] ∧ win3_2.index t = ![0, 0]
    ∧ win3_3.index t = ![t.val, 0] ∧ t.val < 2 :=
  (by decide +kernel : ∀ t : Fin grid3.N, _)

/-- The phases of image `b`, eight images one below another. -/
def stacked (P : FVec Ideal S2x4x1984x384 .f32) : Nat4 := fun b p n ch => at4 P (b / 8) p (b % 8 * 248 + n) ch

/-- The means of the flattened convolution of an array of phases. -/
def REF3 (P : FVec Ideal S2x4x1984x384 .f32) (w : FVec Ideal S9x384x768 .f32) (β : FVec Ideal S1x768 .f32) : FVec Ideal S16x768 .f32 := fun i =>
  mean3 (stacked P) (taps9 w) (fun o => at2 β 0 o) (i 0) (i 1)

/-- The phases' block: eight images. -/
theorem images3 (c : Dev nD) (t : Fin cfg3.N) (i : ℕ) (hi : i < 8) (p : Fin 4) (n : ℕ) (hn : n < 248) (ch : Fin 384) :
    iblk3 V c 0 t (ix4 0 p ⟨i * 248 + n, by omega⟩ ch) = stacked (V c main_v111) (t.val * 8 + i) p n ch := by
  have h := (idx3 t).2.2.2.2
  unfold stacked
  rw [show (t.val * 8 + i) / 8 = t.val by omega, show (t.val * 8 + i) % 8 = i by omega]
  refine Eq.trans ?_ (at4_ix (a := 2) (b := 4) (c := 1984) (d := 384) (V c main_v111) ⟨t, h⟩ p ⟨i * 248 + n, by omega⟩ ch)
  blk_ext! [iblk3, idx3 t]

/-- The weights' block: the whole array. -/
theorem matrices3 (c : Dev nD) (t : Fin cfg3.N) (q : Fin 9) (ch : Fin 384) (o : Fin 768) (ky kx : ℕ) (h : (q : ℕ) = 3 * ky + kx) :
    iblk3 V c 1 t (ix3 q ch o) = taps9 (C := 384) (O := 768) (V c main_v113) o ch ky kx := by
  refine Eq.trans ?_ (taps9_ix (C := 384) (O := 768) (V c main_v113) q ch o ky kx h)
  blk_ext! [iblk3, idx3 t]

/-- The bias's block: the whole row. -/
theorem row3 (c : Dev nD) (t : Fin cfg3.N) (i : Fin 1) (o : Fin 768) :
    iblk3 V c 2 t (ix2 i o) = at2 (a := 1) (b := 768) (V c main_v114) 0 o := by
  refine Eq.trans ?_ (at2_ix (a := 1) (b := 768) (V c main_v114) 0 o)
  blk_ext! [iblk3, idx3 t]

set_option maxHeartbeats 2000000 in
/-- The region's array after its run. -/
theorem final3 (c : Dev nD) : (dat3 V c).arrAt 3 cfg3.N = REF3 (V c main_v111) (V c main_v113) (V c main_v114) := by
  refine (dat3 V c).arrAt_eq_of_covers 3 _ (by decide +kernel) fun t _ y => ?_
  blk_simp
  rw [after3_3]
  refine (body3 (iblk3 V c 0 t) (iblk3 V c 1 t) (iblk3 V c 2 t) (stacked (V c main_v111)) (taps9 (C := 384) (O := 768) (V c main_v113)) (fun o => at2 (a := 1) (b := 768) (V c main_v114) 0 o) (t.val * 8)
    (fun i hi p n hn ch => images3 V c t i hi p n hn ch) (matrices3 V c t) (row3 V c t 0) y).trans ?_
  unfold REF3
  blk_simp [idx3 t]

end Cert.KernelIdeal.Ker

end
-- ==== Proof.Ker.Chain3.lean ====
/-
  The kernel's last level: the operations before region 3, the region, and the means that its array holds.
-/
module

public import proofs.«01_k».proof.Proof.Ker.Chain2
public import proofs.«01_k».proof.Proof.Ker.Host3
public import proofs.«01_k».proof.Proof.Ker.Region3

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

variable (m : (ℓ : Loc nD τ sig) → Buf (Elt Ideal) ℓ) (ρ : Dev nD → PrngReg)

/-- The contents where the phases stand. -/
theorem W46_phases (c : Dev nD) : W46 m ρ c = after phaseOps3 (W36 m ρ c) := by
  rw [after_pair, after_pair, after_pair, after_pair, after_pair, after_pair, after_pair, after_pair, after_pair]

/-- The region's result over typed arrays. -/
theorem level3_of {P : FVec Ideal S2x4x1984x384 .f32} {w : FVec Ideal S9x384x768 .f32} {β : FVec Ideal S1x768 .f32}
    {Q : FVec Ideal S16x4x248x384 .f32} {X : Nat4} {K : FVec Ideal S768x384x3x3 .f32} {B : FVec Ideal S768 .f32}
    (hQ : ∀ (b : Fin 16) (p : Fin 4) (n : Fin 248) (ch : Fin 384), Q (ix4 b p n ch) = phase X 15 b p n ch)
    (hP : ∀ (g : Fin 2) (p : Fin 4) (n : Fin 1984) (ch : Fin 384), P (ix4 g p n ch) = Q (ix4 ⟨g * 8 + n / 248, by omega⟩ p ⟨n % 248, by omega⟩ ch))
    (hw : ∀ (t : Fin 9) (ch : Fin 384) (o : Fin 768), w (ix3 t ch o) = at4 K o ch (t / 3) (t % 3))
    (hβ : ∀ (i : Fin 1) (o : Fin 768), β (ix2 i o) = at1 B o) (b : Fin 16) (o : Fin 768) :
    REF3 P w β (ix2 b o) = mean X (at4 K) (at1 B) b o := by
  have hS : ∀ p < 4, ∀ n < 248, ∀ ch < 384, stacked P b p n ch = phase X 15 b p n ch := by
    intro p hp n hn ch hc
    have hb := b.2
    unfold stacked at4
    rw [dif_pos ⟨by omega, hp, by omega, hc⟩, hP, hQ]
    show phase X 15 (b.val / 8 * 8 + (b.val % 8 * 248 + n) / 248) p ((b.val % 8 * 248 + n) % 248) ch = _
    rw [show b.val / 8 * 8 + (b.val % 8 * 248 + n) / 248 = b.val by omega, show (b.val % 8 * 248 + n) % 248 = n by omega]
  show mean3 (stacked P) (taps9 w) (fun o => at2 β 0 o) b o = _
  unfold mean3 mean
  rw [← mean_div]
  refine mul_congr ?_ rfl
  refine Eq.trans (Finset.sum_congr rfl fun n _ => ?_) ((sum_masked fun n => fconv (phase X 15) (at4 K) (at1 B) 384 15 b o n).trans ?_)
  · by_cases h : n.val % 15 ≠ 14 ∧ n.val < 210
    · rw [if_pos h, if_pos h]
      exact fconv_congr (M := 248) (by omega) (by omega) hS (taps9_of hw o o.2) (row_of hβ o o.2)
    · rw [if_neg h, if_neg h]
  · exact Finset.sum_congr rfl fun r _ => Finset.sum_congr rfl fun c _ => fconv_phase X (at4 K) (at1 B) 384 15 b o r c (by omega)

/-- After region 3: the means of the last level. -/
theorem after_region3 (c : Dev nD) (b : Fin 16) (o : Fin 768) : W48 m ρ c (Proc.devRef .tc main_v115) (ix2 b o)
    = mean (unflat (M := 816) (C := 384) (W36 m ρ c (Proc.devRef .tc main_v88)) 29 28)
      (at4 (a := 768) (b := 384) (c := 3) (d := 3) (m ((c.tc : Thread nD τ).loc main_arg7)))
      (at1 (a := 768) (m ((c.tc : Thread nD τ).loc main_arg8))) b o := by
  have e : W48 m ρ c (Proc.devRef .tc main_v115) = REF3 (W47 m ρ c (Proc.devRef .tc main_v111)) (W47 m ρ c (Proc.devRef .tc main_v113)) (W47 m ρ c (Proc.devRef .tc main_v114)) :=
    (W48_arr m ρ c 3).trans (final3 (V47 m ρ) c)
  have hQ := phases3 (W36 m ρ c)
  rw [← W46_phases m ρ c] at hQ
  have hw := weights3 (W46 m ρ c)
  rw [W46_args m ρ c main_arg7 (by decide)] at hw
  have hb := bias3 (W46 m ρ c)
  rw [W46_args m ρ c main_arg8 (by decide)] at hb
  rw [e]
  exact level3_of (P := W47 m ρ c (Proc.devRef .tc main_v111)) (Q := W46 m ρ c (Proc.devRef .tc main_v108)) hQ (grouped3 (W46 m ρ c)) hw hb b o

end Cert.KernelIdeal.Ker

end
-- ==== Proof.Ker.Distance.lean ====
/-
  Region 4's distances to the codebook, computed in eight chunks of 128.
-/
module

public import proofs.«01_k».proof.Proof.Gen.KernelIdeal.Frame.Region4
public import proofs.«01_k».proof.Proof.Conv.Search
public import Idealize.ShloMosaic.Lib.Pipeline.ValueKit

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv
open Idealize.ShloMosaic.Pipeline (Dat)

/-- The distance, as the kernel computes it: less the square of the searched row. -/
def kdist (U : Fin 768 → EReal) (B : Fin 1024 → Fin 768 → EReal) (k : Fin 1024) : EReal :=
  ∑ x, B k x * B k x - Ideal.ofBits FTy.f32 1073741824#32 * ∑ x, U x * B k x

theorem kdist_of (U : Fin 768 → EReal) (B : Fin 1024 → Fin 768 → EReal) (j : Fin 1024) (n : ℕ) (hn : n < 1024) (e : n = j.val) :
    ∑ x, B ⟨n, hn⟩ x * B ⟨n, hn⟩ x - Ideal.ofBits FTy.f32 1073741824#32 * ∑ x, U x * B ⟨n, hn⟩ x = kdist U B j := by
  subst e; rfl

set_option maxHeartbeats 2000000 in
/-- Eight chunks of 128, side by side. -/
theorem chunks (v1 : FVec Ideal S16x768 .f32) (v10 v19 v28 v37 : FVec Ideal S16x128 .f32) (v38 v47 v56 v65 : Vec Ideal S128x768 .f32)
    (i : Fin 16) (U : Fin 768 → EReal) (B : Fin 1024 → Fin 768 → EReal) (k : Fin 1024) (hv1 : ∀ x : Fin 768, v1 (ix2 i x) = U x)
    (hv10 : ∀ (j : Fin 128) (k : Fin 1024), 0 + j.val = k.val → v10 (ix2 i j) = kdist U B k)
    (hv19 : ∀ (j : Fin 128) (k : Fin 1024), 128 + j.val = k.val → v19 (ix2 i j) = kdist U B k)
    (hv28 : ∀ (j : Fin 128) (k : Fin 1024), 256 + j.val = k.val → v28 (ix2 i j) = kdist U B k)
    (hv37 : ∀ (j : Fin 128) (k : Fin 1024), 384 + j.val = k.val → v37 (ix2 i j) = kdist U B k)
    (hv38 : ∀ (j : Fin 128) (k : Fin 1024) (x : Fin 768), 512 + j.val = k.val → v38 (ix2 j x) = B k x)
    (hv47 : ∀ (j : Fin 128) (k : Fin 1024) (x : Fin 768), 640 + j.val = k.val → v47 (ix2 j x) = B k x)
    (hv56 : ∀ (j : Fin 128) (k : Fin 1024) (x : Fin 768), 768 + j.val = k.val → v56 (ix2 j x) = B k x)
    (hv65 : ∀ (j : Fin 128) (k : Fin 1024) (x : Fin 768), 896 + j.val = k.val → v65 (ix2 j x) = B k x) :
    k4_pay7 (F := Ideal) v1 v10 v19 v28 v37 v38 v47 v56 v65 (ix2 i k) = kdist U B k := by
  have := k.2
  pointwise [k4_pay7]
  simp only [hv1]
  split_ifs
  all_goals first
    | omega
    | exact absurd rfl (by assumption)
    | exact hv10 _ k (show 0 + k.val = k.val by omega)
    | exact hv19 _ k (show 128 + (k.val - 128) = k.val by omega)
    | exact hv28 _ k (show 256 + (k.val - 128 - 128) = k.val by omega)
    | exact hv37 _ k (show 384 + (k.val - 128 - 128 - 128) = k.val by omega)
    | (simp only [hv38 ⟨k.val - 128 - 128 - 128 - 128, by omega⟩ k _ (show 512 + (k.val - 128 - 128 - 128 - 128) = k.val by omega)]; rfl)
    | (simp only [hv47 ⟨k.val - 128 - 128 - 128 - 128 - 128, by omega⟩ k _ (show 640 + (k.val - 128 - 128 - 128 - 128 - 128) = k.val by omega)]; rfl)
    | (simp only [hv56 ⟨k.val - 128 - 128 - 128 - 128 - 128 - 128, by omega⟩ k _ (show 768 + (k.val - 128 - 128 - 128 - 128 - 128 - 128) = k.val by omega)]; rfl)
    | (simp only [hv65 ⟨k.val - 128 - 128 - 128 - 128 - 128 - 128 - 128, by omega⟩ k _ (show 896 + (k.val - 128 - 128 - 128 - 128 - 128 - 128 - 128) = k.val by omega)]; rfl)

section
variable (x0 : Vec Ideal S16x768 .f32) (x1 : Vec Ideal S1024x768 .f32) (i : Fin 16) (U : Fin 768 → EReal) (B : Fin 1024 → Fin 768 → EReal)
  (hU : ∀ x : Fin 768, x0 (ix2 i x) = U x) (hB : ∀ (k : Fin 1024) (x : Fin 768), x1 (ix2 k x) = B k x)

include hU hB

theorem chunk0 (j : Fin 128) (k : Fin 1024) (e : j.val = k.val) : k4_pay12 (F := Ideal) x0 x1 (ix2 i j) = kdist U B k := by
  unfold k4_pay12
  pointwise [k4_pay3, k4_pay2]
  simp only [hU, hB]
  exact kdist_of U B k _ _ e

theorem chunk1 (j : Fin 128) (k : Fin 1024) (e : 128 + j.val = k.val) : k4_pay13 (F := Ideal) x0 x1 (ix2 i j) = kdist U B k := by
  unfold k4_pay13
  pointwise [k4_pay4, k4_pay2]
  simp only [hU, hB]
  exact kdist_of U B k _ _ e

theorem chunk2 (j : Fin 128) (k : Fin 1024) (e : 256 + j.val = k.val) : k4_pay14 (F := Ideal) x0 x1 (ix2 i j) = kdist U B k := by
  unfold k4_pay14
  pointwise [k4_pay5, k4_pay2]
  simp only [hU, hB]
  exact kdist_of U B k _ _ e

theorem chunk3 (j : Fin 128) (k : Fin 1024) (e : 384 + j.val = k.val) : k4_pay15 (F := Ideal) x0 x1 (ix2 i j) = kdist U B k := by
  unfold k4_pay15
  pointwise [k4_pay6, k4_pay2]
  simp only [hU, hB]
  exact kdist_of U B k _ _ e

/-- The distances. -/
theorem dist4 (k : Fin 1024) : k4_pay16 (F := Ideal) x0 x1 (ix2 i k) = kdist U B k := by
  have h11 : ∀ x : Fin 768, k4_pay11 (F := Ideal) x0 x1 (ix2 i x) = U x := fun x => by
    unfold k4_pay11
    pointwise [k4_pay2]
    exact hU x
  unfold k4_pay16
  refine chunks _ _ _ _ _ _ _ _ _ i U B k h11 (fun j k e => chunk0 x0 x1 i U B hU hB j k (by omega)) (chunk1 x0 x1 i U B hU hB)
    (chunk2 x0 x1 i U B hU hB) (chunk3 x0 x1 i U B hU hB) ?_ ?_ ?_ ?_ <;>
  · intro j k x e
    pointwise
    rw [hB]
    exact congrArg (fun z => B z x) (Fin.ext e)

end

end Cert.KernelIdeal.Ker

end
-- ==== Proof.Ker.Region4.lean ====
/-
  Region 4, read: the distances to the codebook, the first least one, and the codebook row it fetches as a one-hot product.
-/
module

public import proofs.«01_k».proof.Proof.Gen.KernelIdeal.Frame.Region4
public import proofs.«01_k».proof.Proof.Ker.Distance
public import Idealize.ShloMosaic.Lib.Pipeline.ValueKit

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv
open Idealize.ShloMosaic.Pipeline (Dat)

section
variable (x0 : Vec Ideal S16x768 .f32) (x1 : Vec Ideal S1024x768 .f32) (i : Fin 16) (U : Fin 768 → EReal) (B : Fin 1024 → Fin 768 → EReal)
  (hU : ∀ x : Fin 768, x0 (ix2 i x) = U x) (hB : ∀ (k : Fin 1024) (x : Fin 768), x1 (ix2 k x) = B k x)

include hU hB

/-- The least distance. -/
theorem least4 (k : Fin 1024) (hk : First (kdist U B) k) (j : Fin 1) : k4_pay17 (F := Ideal) x0 x1 (ix2 i j) = kdist U B k := by
  have e : (fun x => k4_pay16 (F := Ideal) x0 x1 (ix2 i x)) = kdist U B := funext fun x => dist4 x0 x1 i U B hU hB x
  unfold k4_pay16 at e
  unfold k4_pay17
  pointwise [k4_pay8]
  rw [e, show Ideal.ofBits FTy.f32 2139095040#32 = (⊤ : EReal) by simp [Ideal.ofBits, Ideal.ieee]]
  exact fold_min_first hk

end

/-- The one-hot row. -/
theorem hot4 (v74 : FVec Ideal S16x1024 .f32) (v76 : FVec Ideal S16x1 .f32) (i : Fin 16) (d : Fin 1024 → EReal) (k : Fin 1024) (hk : First d k)
    (hd : ∀ x : Fin 1024, v74 (ix2 i x) = d x) (hm : v76 (ix2 i 0) = d k) (j : Fin 1024) :
    k4_pay9 (F := Ideal) v74 v76 (ix2 i j) = if j = k then (1 : EReal) else 0 := by
  pointwise [k4_pay9]
  simp only [hd]
  rw [fold_word_first hk hm]
  by_cases h : j = k
  · subst h
    rw [if_pos rfl, show IntOp.cmpi .eq (BitVec.ofNat 32 j.val) (BitVec.ofNat 32 j.val) = 1#1 by simp [IntOp.cmpi]]
    show (((BitVec.setWidth 32 (1#1)).toInt : ℝ) : EReal) = 1
    simp
  · have hne : BitVec.ofNat 32 j.val ≠ BitVec.ofNat 32 k.val := fun e => by
      have e := congrArg BitVec.toNat e
      rw [BitVec.toNat_ofNat, BitVec.toNat_ofNat] at e
      have := j.2
      have := k.2
      exact h (Fin.ext (by omega))
    rw [if_neg h, show IntOp.cmpi .eq (BitVec.ofNat 32 j.val) (BitVec.ofNat 32 k.val) = 0#1 from by
      show BitVec.ofBool (BitVec.ofNat 32 j.val == BitVec.ofNat 32 k.val) = 0#1
      rw [beq_eq_false_iff_ne.2 hne]; rfl]
    show (((BitVec.setWidth 32 (0#1)).toInt : ℝ) : EReal) = 0
    simp

/-- A sum over 1024 in eight chunks of 128. -/
theorem sum_chunks (F : Fin 1024 → EReal) : ∑ k, F k = ∑ q : Fin 8, ∑ x : Fin 128, F ⟨128 * q.val + x.val, by omega⟩ := by
  rw [← Fintype.sum_prod_type' (f := fun (q : Fin 8) (x : Fin 128) => F ⟨128 * q.val + x.val, by omega⟩)]
  refine (Fintype.sum_equiv (finProdFinEquiv (m := 8) (n := 128)) _ _ fun p => ?_).symm
  exact congrArg F (Fin.ext (by show 128 * p.1.val + p.2.val = p.2.val + 128 * p.1.val; omega))

/-- What the body leaves: the codebook row of the first least distance. -/
theorem body4 (x0 : Vec Ideal S16x768 .f32) (x1 : Vec Ideal S1024x768 .f32) (i : Fin 16) (U : Fin 768 → EReal) (B : Fin 1024 → Fin 768 → EReal)
    (hU : ∀ x : Fin 768, x0 (ix2 i x) = U x) (hB : ∀ (k : Fin 1024) (x : Fin 768), x1 (ix2 k x) = B k x) (k : Fin 1024)
    (hk : First (kdist U B) k) (j : Fin 768) : out4_2 (F := Ideal) x0 x1 (ix2 i j) = B k j := by
  have hot := hot4 (k4_pay16 (F := Ideal) x0 x1) (k4_pay17 (F := Ideal) x0 x1) i (kdist U B) k hk (dist4 x0 x1 i U B hU hB) (least4 x0 x1 i U B hU hB k hk 0)
  unfold out4_2
  frame_out
  pointwise [k4_pay1, k4_pay10]
  simp only [hot, hB]
  refine Eq.trans ?_ ((sum_chunks fun x => (if x = k then (1 : EReal) else 0) * B x j).symm.trans (sum_one_hot (fun x => B x j) k))
  rw [Fin.sum_univ_eight]
  have e : ∀ x : Fin 128, (⟨x.val, by omega⟩ : Fin 1024) = ⟨128 * (0 : Fin 8).val + x.val, by omega⟩ := fun x => Fin.ext (by simp)
  simp only [e]
  rfl

variable (V : (c : Dev nD) → (b : Ref sig .tc) → Buf (Elt Ideal) ((c : Thread nD τ).loc b))

/-- The windows' blocks: whole arrays. -/
theorem idx4 : win4_0.index t4_0 = ![0, 0] ∧ win4_1.index t4_0 = ![0, 0] ∧ win4_2.index t4_0 = ![0, 0] := by decide +kernel

/-- The region's result. -/
theorem final4 (c : Dev nD) : (dat4 V c).arrAt 2 cfg4.N = out4_2 (F := Ideal) (V c main_v115) (V c main_arg9) := by
  refine (dat4 V c).arrAt_eq_of_after_last 2 t4_0 (by decide +kernel) _ fun j => ?_
  blk_simp
  rw [after4_2]
  have h0 : iblk4 V c 0 t4_0 = V c main_v115 := by
    funext i
    blk_ext! [iblk4, idx4]
  have h1 : iblk4 V c 1 t4_0 = V c main_arg9 := by
    funext i
    blk_ext! [iblk4, idx4]
  rw [h0, h1]

end Cert.KernelIdeal.Ker

end
-- ==== Proof.Ker.Chain4.lean ====
/-
  The kernel's result: the codebook row that the first least distance picks, for the means of the four levels.
-/
module

public import proofs.«01_k».proof.Proof.Ker.Chain3
public import proofs.«01_k».proof.Proof.Ker.Region4

@[expose] public section

set_option maxRecDepth 16384

noncomputable section

namespace Cert.KernelIdeal.Ker

open Cert.KernelIdeal Cert.KernelIdeal.Gen Idealize.ShloMosaic Idealize.ShloMosaic.TcCoe Idealize.ShloMosaic.StableHlo Cert.Conv

variable (m : (ℓ : Loc nD τ sig) → Buf (Elt Ideal) ℓ) (ρ : Dev nD → PrngReg)

/-- The means, of the arguments. -/
theorem means (c : Dev nD) (b : Fin 16) (o : Fin 768) : W48 m ρ c (Proc.devRef .tc main_v115) (ix2 b o)
    = mean (net (at4 (a := 16) (b := 3) (c := 224) (d := 224) (m ((c.tc : Thread nD τ).loc main_arg0)))
        (at4 (a := 96) (b := 3) (c := 3) (d := 3) (m ((c.tc : Thread nD τ).loc main_arg1))) (at1 (a := 96) (m ((c.tc : Thread nD τ).loc main_arg2)))
        (at4 (a := 192) (b := 96) (c := 3) (d := 3) (m ((c.tc : Thread nD τ).loc main_arg3))) (at1 (a := 192) (m ((c.tc : Thread nD τ).loc main_arg4)))
        (at4 (a := 384) (b := 192) (c := 3) (d := 3) (m ((c.tc : Thread nD τ).loc main_arg5))) (at1 (a := 384) (m ((c.tc : Thread nD τ).loc main_arg6))))
      (at4 (a := 768) (b := 384) (c := 3) (d := 3) (m ((c.tc : Thread nD τ).loc main_arg7)))
      (at1 (a := 768) (m ((c.tc : Thread nD τ).loc main_arg8))) b o := by
  rw [after_region3 m ρ c b o, after_region2 m ρ c, after_region1 m ρ c, after_region0 m ρ c]
  rfl

/-- The result at an image and a channel: row `k` of the codebook. -/
theorem result (c : Dev nD) (b : Fin 16) (U : Fin 768 → EReal) (B : Fin 1024 → Fin 768 → EReal)
    (hU : ∀ x : Fin 768, W48 m ρ c (Proc.devRef .tc main_v115) (ix2 b x) = U x)
    (hB : ∀ (k : Fin 1024) (x : Fin 768), m ((c.tc : Thread nD τ).loc main_arg9) (ix2 k x) = B k x) (k : Fin 1024) (hk : First (kdist U B) k)
    (o : Fin 768) (i j : Fin 1) : W50 m ρ c (Proc.devRef .tc main_v117) (ix4 b o i j) = B k o := by
  refine (result_read (W49 m ρ c) b o i j).trans ?_
  have e : W49 m ρ c (Proc.devRef .tc main_v116) = out4_2 (F := Ideal) (W48 m ρ c (Proc.devRef .tc main_v115)) (W48 m ρ c (Proc.devRef .tc main_arg9)) :=
    (W49_arr m ρ c 2).trans (final4 (V48 m ρ) c)
  rw [e]
  refine body4 _ _ b U B hU ?_ k hk o
  rw [W48_args m ρ c main_arg9 (by decide)]
  exact hB

end Cert.KernelIdeal.Ker

end
-- ==== Proof.Ref.Search.lean ====
/-
  The mean, the distances, the least distance and the fetched row of the reference, read at an index.
-/
module

public import proofs.«01_k».proof.Proof.Ref.Run
public import proofs.«01_k».proof.Proof.Conv.Search
public import Idealize.ShloMosaic.Lib.StableHlo.ReadAt
public import Idealize.ShloMosaic.Lib.Routing.Ops

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo Cert.Conv

/-- The mean over the image. -/
theorem average_read (V : Valuation τ sig (Elt Ideal)) (b : Fin 16) (o : Fin 768) (i j : Fin 1) :
    after average V (Proc.devRef .tc main_v243) (ix4 b o i j)
      = Ideal.div (∑ x : Fin 14, ∑ y : Fin 14, at4 (a := 16) (b := 768) (c := 14) (d := 14) (V (Proc.devRef .tc main_v239)) b o x y) (Ideal.ofBits FTy.f32 1128529920#32) := by
  after_reads_at
  exact congrArg (fun z => Ideal.div z _) (Finset.sum_congr rfl fun x _ => Finset.sum_congr rfl fun y _ => at4_ix (a := 16) (b := 768) (c := 14) (d := 14) _ b o x y)

/-- The mean over the image, as a row. -/
theorem average_row (V : Valuation τ sig (Elt Ideal)) (b : Fin 16) (o : Fin 768) :
    after average V (Proc.devRef .tc main_v244) (ix2 b o)
      = Ideal.div (∑ x : Fin 14, ∑ y : Fin 14, at4 (a := 16) (b := 768) (c := 14) (d := 14) (V (Proc.devRef .tc main_v239)) b o x y) (Ideal.ofBits FTy.f32 1128529920#32) := by
  after_reads_at
  exact congrArg (fun z => Ideal.div z _) (Finset.sum_congr rfl fun x _ => Finset.sum_congr rfl fun y _ => at4_ix (a := 16) (b := 768) (c := 14) (d := 14) _ b o x y)

/-- The distance, as the reference computes it. -/
def rdist (U : Fin 768 → EReal) (B : Fin 1024 → Fin 768 → EReal) (k : Fin 1024) : EReal :=
  ∑ x, U x * U x - ∑ x, Ideal.ofBits FTy.f32 1073741824#32 * U x * B k x + ∑ x, B k x * B k x

/-- The distances. -/
theorem distances_read (V : Valuation τ sig (Elt Ideal)) (b : Fin 16) (k : Fin 1024) (U : Fin 768 → EReal) (B : Fin 1024 → Fin 768 → EReal)
    (hU : ∀ x : Fin 768, V (Proc.devRef .tc main_v244) (ix2 b x) = U x) (hB : ∀ (k : Fin 1024) (x : Fin 768), V (Proc.devRef .tc main_arg9) (ix2 k x) = B k x) :
    after distances V (Proc.devRef .tc main_v258) (ix2 b k) = rdist U B k := by
  after_reads_at
  simp only [hU, hB]
  rfl

/-- The reducer keeps the lesser of two pairs. -/
theorem reducer_lex (a b : EReal × BitVec 32) : (reducer_argmin_f32_i32 (F := Ideal) a b = a ∨ reducer_argmin_f32_i32 (F := Ideal) a b = b)
    ∧ lexle (reducer_argmin_f32_i32 (F := Ideal) a b) a ∧ lexle (reducer_argmin_f32_i32 (F := Ideal) a b) b := by
  obtain ⟨x, i⟩ := a
  obtain ⟨y, j⟩ := b
  have e : reducer_argmin_f32_i32 (F := Ideal) (x, i) (y, j) = if x < y ∨ (x = y ∧ i.toInt < j.toInt) then (x, i) else (y, j) := by
    unfold reducer_argmin_f32_i32
    rcases lt_trichotomy x y with h | h | h
    · simp [Ideal.cmpf_def, Ideal.cmp, h, h.ne, IntOp.ori, IntOp.andi, IntOp.cmpi, Scalar.select]
    · subst h
      by_cases hi : i.toInt < j.toInt <;> simp [Ideal.cmpf_def, Ideal.cmp, hi, IntOp.ori, IntOp.andi, IntOp.cmpi, Scalar.select, BitVec.slt]
    · simp [Ideal.cmpf_def, Ideal.cmp, h.not_gt, h.ne', IntOp.ori, IntOp.andi, IntOp.cmpi, Scalar.select]
  rw [e]
  split
  · rename_i h
    refine ⟨Or.inl rfl, lexle_refl _, ?_⟩
    rcases h with h | ⟨h, h'⟩
    · exact Or.inl h
    · exact Or.inr ⟨h, h'.le⟩
  · rename_i h
    refine ⟨Or.inr rfl, ?_, lexle_refl _⟩
    rw [not_or, not_and] at h
    rcases lt_or_eq_of_le (not_lt.1 h.1) with h' | h'
    · exact Or.inl h'
    · exact Or.inr ⟨h', not_lt.1 (h.2 h'.symm)⟩

theorem top_word : Ideal.ofBits FTy.f32 2139095040#32 = (⊤ : EReal) := by
  simp [Ideal.ofBits, Ideal.ieee]

/-- The least of a row of pairs. -/
theorem least_row (X : FVec Ideal S16x1024 .f32) (b : Fin 16) (d : Fin 1024 → EReal) (i : Fin 1024) (hi : First d i)
    (hd : ∀ k : Fin 1024, X (ix2 b k) = d k) (u : FVec Ideal S_ .f32) (v : IVec S_ 32) (hu : u (Shape.Idx.first h_S_) = (⊤ : EReal)) (hv : v (Shape.Idx.first h_S_) = 0#32) :
    (Host.argReduce (reducer_argmin_f32_i32 (F := Ideal)) X (iotaInDim S16x1024 32 1) u v reducesTo_S16x1024_S16_d1 h_S_ (ix1 b)).2 = BitVec.ofNat 32 i.val := by
  rw [Ideal.argReduce_eq_reduce2, Host.reduce2_eq_foldl_fiber, hu, hv]
  obtain ⟨h1, -, h3⟩ := foldl_lex (reducer_argmin_f32_i32 (F := Ideal)) reducer_lex
    (Host.argReduceFiber X (iotaInDim S16x1024 32 1) reducesTo_S16x1024_S16_d1 (ix1 b))
    ((⊤ : EReal), (0#32 : BitVec 32))
  have hdrop : ∀ z : S16x1024.Idx, reducesTo_S16x1024_S16_d1.drop z = ix1 b ↔ (z 0 : ℕ) = b := by
    intro z
    have hv : (reducesTo_S16x1024_S16_d1.drop z 0 : ℕ) = z 0 := Shape.ReducesTo.drop_apply_val reducesTo_S16x1024_S16_d1 z 0
    constructor
    · intro h; rw [← hv, h]; rfl
    · intro h
      funext a
      obtain rfl : a = 0 := Subsingleton.elim _ _
      exact Fin.ext (hv.trans h)
  have hL : ∀ k : Fin 1024, (d k, BitVec.ofNat 32 k.val) ∈
      Host.argReduceFiber X (iotaInDim S16x1024 32 1) reducesTo_S16x1024_S16_d1 (ix1 b) := fun k => by
    refine List.mem_map.2 ⟨S16x1024.rowMajor (ix2 b k), List.mem_filter.2 ⟨List.mem_finRange _, ?_⟩, ?_⟩
    · rw [Equiv.symm_apply_apply]; exact decide_eq_true ((hdrop _).2 rfl)
    · rw [Equiv.symm_apply_apply]; exact Prod.ext (hd k) rfl
  have hL' : ∀ x ∈ Host.argReduceFiber X (iotaInDim S16x1024 32 1) reducesTo_S16x1024_S16_d1 (ix1 b),
      ∃ k : Fin 1024, x = (d k, BitVec.ofNat 32 k.val) := fun x hx => by
    obtain ⟨n, hn, rfl⟩ := List.mem_map.1 hx
    have h0 := (hdrop _).1 (of_decide_eq_true (List.mem_filter.1 hn).2)
    refine ⟨(S16x1024.rowMajor.symm n) 1, Prod.ext (Eq.trans (congrArg X (funext fun a => ?_)) (hd ((S16x1024.rowMajor.symm n) 1))) rfl⟩
    match a with
    | ⟨0, _⟩ => exact Fin.ext h0
    | ⟨1, _⟩ => rfl
  obtain ⟨i', hf, hr⟩ := first_of_pairs d _ hL hL' _ h1 h3
  rw [hi.unique hf]; exact hr

/-- The least distance's index. -/
theorem least_read (V : Valuation τ sig (Elt Ideal)) (b : Fin 16) (d : Fin 1024 → EReal) (i : Fin 1024) (hi : First d i)
    (hd : ∀ k : Fin 1024, V (Proc.devRef .tc main_v258) (ix2 b k) = d k) :
    after least V (Proc.devRef .tc main_v259) (ix1 b) = BitVec.ofNat 32 i.val := by
  after_reads_at
  exact least_row _ b d i hi hd _ _ top_word rfl

/-- The fetched row, added to the mean less the mean. -/
theorem fetch_read (V : Valuation τ sig (Elt Ideal)) (b : Fin 16) (o : Fin 768) (i j : Fin 1) (k : Fin 1024)
    (hk : V (Proc.devRef .tc main_v259) (ix1 b) = BitVec.ofNat 32 k.val) (u q : EReal)
    (hu : V (Proc.devRef .tc main_v243) (ix4 b o i j) = u) (hq : V (Proc.devRef .tc main_arg9) (ix2 k o) = q) :
    after fetch V (Proc.devRef .tc main_v263) (ix4 b o i j) = u + (q - u) := by
  after_reads_at
  have tI : (BitVec.ofNat 32 k.val).toInt = k.val := by
    have := k.2
    rw [BitVec.toInt_eq_toNat_cond, BitVec.toNat_ofNat]; split <;> omega
  have c0 : IntOp.cmpi .slt (BitVec.ofNat 32 k.val) 0#32 = 0#1 := by
    have h0 : (0#32 : BitVec 32).toInt = 0 := rfl
    have hn : ¬ ((k.val : ℤ) < 0) := by omega
    show BitVec.ofBool (decide ((BitVec.ofNat 32 k.val).toInt < (0#32 : BitVec 32).toInt)) = 0#1
    rw [tI, h0, decide_eq_false hn]; rfl
  have c1 : IntOp.cmpi .sge (BitVec.ofNat 32 k.val) 0#32 = 1#1 := by
    simp [IntOp.cmpi, BitVec.sle, tI]
  have c2 : IntOp.cmpi .sle (BitVec.ofNat 32 k.val) 1023#32 = 1#1 := by
    have h0 : (1023#32 : BitVec 32).toInt = 1023 := rfl
    have hn : (k.val : ℤ) ≤ 1023 := by have := k.2; omega
    show BitVec.ofBool (decide ((BitVec.ofNat 32 k.val).toInt ≤ (1023#32 : BitVec 32).toInt)) = 1#1
    rw [tI, h0, decide_eq_true hn]; rfl
  have s0 : ∀ {α : Type} (x y : α), Scalar.select 0#1 x y = y := fun _ _ => rfl
  have s1 : ∀ {α : Type} (x y : α), Scalar.select 1#1 x y = x := fun _ _ => rfl
  have hg : ∀ idx : IVec S16x1 32, idx (ix2 b (0 : Fin 1)) = BitVec.ofNat 32 k.val →
      Host.gather gather_S1024x768_S16x1_S16x768_1_0_n_n_0_1_1768 (V (Proc.devRef .tc main_arg9)) idx (ix2 b o) = V (Proc.devRef .tc main_arg9) (ix2 k o) :=
    fun idx h => Routing.gather_row (nb := 1024) (B := 768) (n := 16) gather_S1024x768_S16x1_S16x768_1_0_n_n_0_1_1768 rfl rfl rfl rfl rfl _ _ b o k h (by norm_num)
  rw [hg _ (by pointwise; rw [hk, c0, s0])]
  simp only [hk, c0, c1, c2, s0, s1, hu, hq]
  rw [show (Finset.fold IntOp.andi (1#1) (fun _ : Fin 1 => IntOp.andi 1#1 1#1) Finset.univ) = 1#1 from rfl, s1]

/-- The search: where `k` is the first index of the least distance, the result is the mean plus the difference of row `k` and the mean. -/
theorem search_read (V : Valuation τ sig (Elt Ideal)) (b : Fin 16) (U : Fin 768 → EReal) (B : Fin 1024 → Fin 768 → EReal)
    (hU : ∀ o : Fin 768, Ideal.div (∑ x : Fin 14, ∑ y : Fin 14, at4 (a := 16) (b := 768) (c := 14) (d := 14) (V (Proc.devRef .tc main_v239)) b o x y)
      (Ideal.ofBits FTy.f32 1128529920#32) = U o)
    (hB : ∀ (k : Fin 1024) (x : Fin 768), V (Proc.devRef .tc main_arg9) (ix2 k x) = B k x) (k : Fin 1024) (hk : First (rdist U B) k)
    (o : Fin 768) (i j : Fin 1) :
    after search V (Proc.devRef .tc main_v263) (ix4 b o i j) = U o + (B k o - U o) := by
  rw [show after search V = after fetch (after least (after distances (after average V))) by rw [after_two, after_two, after_two]]
  have a9 : after average V (Proc.devRef .tc main_arg9) = V (Proc.devRef .tc main_arg9) := by after_reads_simp
  refine fetch_read _ b o i j k (least_read _ b (rdist U B) k hk fun k' => distances_read _ b k' U B (fun x => ?_) (fun k x => ?_)) _ _ ?_ ?_
  · exact (average_row V b x).trans (hU x)
  · rw [a9]; exact hB k x
  · rw [show after least (after distances (after average V)) (Proc.devRef .tc main_v243) = after distances (after average V) (Proc.devRef .tc main_v243) by after_reads_simp,
      show after distances (after average V) (Proc.devRef .tc main_v243) = after average V (Proc.devRef .tc main_v243) by after_reads_simp]
    exact (average_read V b o i j).trans (hU o)
  · rw [show after least (after distances (after average V)) (Proc.devRef .tc main_arg9) = after distances (after average V) (Proc.devRef .tc main_arg9) by after_reads_simp,
      show after distances (after average V) (Proc.devRef .tc main_arg9) = after average V (Proc.devRef .tc main_arg9) by after_reads_simp, a9]
    exact hB k o

end Cert.ReferenceIdeal.Line

end
-- ==== Proof.Ref.Level.lean ====
/-
  What each level of the reference leaves in its last buffer: the convolution of Spec.lean, read at an index.
-/
module

public import proofs.«01_k».proof.Proof.Ref.Ops
public import proofs.«01_k».proof.Proof.Conv.Spec
public import Idealize.ShloMosaic.Lib.StableHlo.ReadAt

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo Cert.Conv

/-- The padding value: the word zero made a float. -/
theorem zero_word : (FloatOps.sitofp (F := Ideal) FTy.f32 0#32 : EReal) = 0 := by
  show (((0#32 : BitVec 32).toInt : ℝ) : EReal) = 0
  simp

set_option maxHeartbeats 4000000 in
/-- Level 0. -/
theorem level0_read (V : Valuation τ sig (Elt Ideal)) (b : Fin 16) (o : Fin 96) (r c : Fin 112) :
    after level0 V (Proc.devRef .tc main_v59) (ix4 b o r c)
      = conv (at4 (a := 16) (b := 3) (c := 224) (d := 224) (V (Proc.devRef .tc main_arg0))) (at4 (a := 96) (b := 3) (c := 3) (d := 3) (V (Proc.devRef .tc main_arg1)))
        (at1 (a := 96) (V (Proc.devRef .tc main_arg2))) 3 b o r c := by
  after_reads_at
  refine conv_of_taps ?_ ?_ ?_ ?_ ?_ ?_ ?_ ?_ ?_ (at1_ix (a := 96) _ o) <;>
    exact padded_tap _ _ b o r c _ _ _ _ _ _ _ zero_word rfl rfl (by omega) (by omega)

set_option maxHeartbeats 4000000 in
/-- Level 1. -/
theorem level1_read (V : Valuation τ sig (Elt Ideal)) (b : Fin 16) (o : Fin 192) (r c : Fin 56) :
    after level1 V (Proc.devRef .tc main_v119) (ix4 b o r c)
      = conv (at4 (a := 16) (b := 96) (c := 112) (d := 112) (V (Proc.devRef .tc main_v59))) (at4 (a := 192) (b := 96) (c := 3) (d := 3) (V (Proc.devRef .tc main_arg3)))
        (at1 (a := 192) (V (Proc.devRef .tc main_arg4))) 96 b o r c := by
  after_reads_at
  refine conv_of_taps ?_ ?_ ?_ ?_ ?_ ?_ ?_ ?_ ?_ (at1_ix (a := 192) _ o) <;>
    exact padded_tap _ _ b o r c _ _ _ _ _ _ _ zero_word rfl rfl (by omega) (by omega)

set_option maxHeartbeats 4000000 in
/-- Level 2. -/
theorem level2_read (V : Valuation τ sig (Elt Ideal)) (b : Fin 16) (o : Fin 384) (r c : Fin 28) :
    after level2 V (Proc.devRef .tc main_v179) (ix4 b o r c)
      = conv (at4 (a := 16) (b := 192) (c := 56) (d := 56) (V (Proc.devRef .tc main_v119))) (at4 (a := 384) (b := 192) (c := 3) (d := 3) (V (Proc.devRef .tc main_arg5)))
        (at1 (a := 384) (V (Proc.devRef .tc main_arg6))) 192 b o r c := by
  after_reads_at
  refine conv_of_taps ?_ ?_ ?_ ?_ ?_ ?_ ?_ ?_ ?_ (at1_ix (a := 384) _ o) <;>
    exact padded_tap _ _ b o r c _ _ _ _ _ _ _ zero_word rfl rfl (by omega) (by omega)

set_option maxHeartbeats 4000000 in
/-- Level 3. -/
theorem level3_read (V : Valuation τ sig (Elt Ideal)) (b : Fin 16) (o : Fin 768) (r c : Fin 14) :
    after level3 V (Proc.devRef .tc main_v239) (ix4 b o r c)
      = conv (at4 (a := 16) (b := 384) (c := 28) (d := 28) (V (Proc.devRef .tc main_v179))) (at4 (a := 768) (b := 384) (c := 3) (d := 3) (V (Proc.devRef .tc main_arg7)))
        (at1 (a := 768) (V (Proc.devRef .tc main_arg8))) 384 b o r c := by
  after_reads_at
  refine conv_of_taps ?_ ?_ ?_ ?_ ?_ ?_ ?_ ?_ ?_ (at1_ix (a := 768) _ o) <;>
    exact padded_tap _ _ b o r c _ _ _ _ _ _ _ zero_word rfl rfl (by omega) (by omega)

end Cert.ReferenceIdeal.Line

end
-- ==== Proof.Conv.Code.lean ====
/-
  The mean that both programs compare with the codebook, as one function of the nine arrays it depends on.
-/
module

public import proofs.«01_k».proof.Proof.Conv.Levels

@[expose] public section

noncomputable section

namespace Cert.Conv

open Idealize.ShloMosaic

/-- The mean of the last level, of the images, the weights and the biases. -/
def code (x0 : ((⟨4, ![16, 3, 224, 224]⟩ : Shape).Idx → EReal)) (x1 : ((⟨4, ![96, 3, 3, 3]⟩ : Shape).Idx → EReal)) (x2 : ((⟨1, ![96]⟩ : Shape).Idx → EReal)) (x3 : ((⟨4, ![192, 96, 3, 3]⟩ : Shape).Idx → EReal)) (x4 : ((⟨1, ![192]⟩ : Shape).Idx → EReal)) (x5 : ((⟨4, ![384, 192, 3, 3]⟩ : Shape).Idx → EReal)) (x6 : ((⟨1, ![384]⟩ : Shape).Idx → EReal)) (x7 : ((⟨4, ![768, 384, 3, 3]⟩ : Shape).Idx → EReal)) (x8 : ((⟨1, ![768]⟩ : Shape).Idx → EReal)) : ℕ → ℕ → EReal :=
  mean (net (at4 x0) (at4 x1) (at1 x2) (at4 x3) (at1 x4) (at4 x5) (at1 x6)) (at4 x7) (at1 x8)

theorem code_congr {x0 y0 : (⟨4, ![16, 3, 224, 224]⟩ : Shape).Idx → EReal} {x1 y1 : (⟨4, ![96, 3, 3, 3]⟩ : Shape).Idx → EReal} {x2 y2 : (⟨1, ![96]⟩ : Shape).Idx → EReal} {x3 y3 : (⟨4, ![192, 96, 3, 3]⟩ : Shape).Idx → EReal} {x4 y4 : (⟨1, ![192]⟩ : Shape).Idx → EReal} {x5 y5 : (⟨4, ![384, 192, 3, 3]⟩ : Shape).Idx → EReal} {x6 y6 : (⟨1, ![384]⟩ : Shape).Idx → EReal} {x7 y7 : (⟨4, ![768, 384, 3, 3]⟩ : Shape).Idx → EReal} {x8 y8 : (⟨1, ![768]⟩ : Shape).Idx → EReal}
    (h0 : x0 = y0) (h1 : x1 = y1) (h2 : x2 = y2) (h3 : x3 = y3) (h4 : x4 = y4) (h5 : x5 = y5) (h6 : x6 = y6) (h7 : x7 = y7) (h8 : x8 = y8) : code x0 x1 x2 x3 x4 x5 x6 x7 x8 = code y0 y1 y2 y3 y4 y5 y6 y7 y8 := by
  subst h0 h1 h2 h3 h4 h5 h6 h7 h8
  rfl

/-- The mean of real arrays is real. -/
theorem IsReal.code {x0 : (⟨4, ![16, 3, 224, 224]⟩ : Shape).Idx → EReal} {x1 : (⟨4, ![96, 3, 3, 3]⟩ : Shape).Idx → EReal} {x2 : (⟨1, ![96]⟩ : Shape).Idx → EReal} {x3 : (⟨4, ![192, 96, 3, 3]⟩ : Shape).Idx → EReal} {x4 : (⟨1, ![192]⟩ : Shape).Idx → EReal} {x5 : (⟨4, ![384, 192, 3, 3]⟩ : Shape).Idx → EReal} {x6 : (⟨1, ![384]⟩ : Shape).Idx → EReal} {x7 : (⟨4, ![768, 384, 3, 3]⟩ : Shape).Idx → EReal} {x8 : (⟨1, ![768]⟩ : Shape).Idx → EReal}
    (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (b o : ℕ) : IsReal (code x0 x1 x2 x3 x4 x5 x6 x7 x8 b o) :=
  IsReal.mean (IsReal.level (IsReal.level (IsReal.level (IsReal.at4 h0) (IsReal.at4 h1) (IsReal.at1 h2)) (IsReal.at4 h3) (IsReal.at1 h4))
    (IsReal.at4 h5) (IsReal.at1 h6)) (IsReal.at4 h7) (IsReal.at1 h8) b o

end Cert.Conv

end
-- ==== Proof.Ref.Result.lean ====
/-
  The reference's result, of its arguments.
-/
module

public import proofs.«01_k».proof.Proof.Ref.Search
public import proofs.«01_k».proof.Proof.Ref.Level
public import proofs.«01_k».proof.Proof.Ref.Run
public import proofs.«01_k».proof.Proof.Conv.Code

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo Cert.Conv

variable (V : Valuation τ sig (Elt Ideal))

/-- An argument after each level. -/
theorem arg1 (r : Ref sig .tc) (h : r ∈ argRefs) : V1 V (Proc.devRef .tc r) = V (Proc.devRef .tc r) := level0_args V r h
theorem arg2 (r : Ref sig .tc) (h : r ∈ argRefs) : V2 V (Proc.devRef .tc r) = V (Proc.devRef .tc r) := (level1_args _ r h).trans (arg1 V r h)
theorem arg3 (r : Ref sig .tc) (h : r ∈ argRefs) : V3 V (Proc.devRef .tc r) = V (Proc.devRef .tc r) := (level2_args _ r h).trans (arg2 V r h)
theorem arg4 (r : Ref sig .tc) (h : r ∈ argRefs) : V4 V (Proc.devRef .tc r) = V (Proc.devRef .tc r) := (level3_args _ r h).trans (arg3 V r h)

/-- The levels. -/
theorem first : at4 (a := 16) (b := 96) (c := 112) (d := 112) (V1 V (Proc.devRef .tc main_v59))
    = level (at4 (a := 16) (b := 3) (c := 224) (d := 224) (V (Proc.devRef .tc main_arg0))) (at4 (a := 96) (b := 3) (c := 3) (d := 3) (V (Proc.devRef .tc main_arg1))) (at1 (a := 96) (V (Proc.devRef .tc main_arg2))) 3 96 112 :=
  at4_level (A := V1 V (Proc.devRef .tc main_v59)) (level0_read V)

theorem second : at4 (a := 16) (b := 192) (c := 56) (d := 56) (V2 V (Proc.devRef .tc main_v119))
    = level (at4 (a := 16) (b := 96) (c := 112) (d := 112) (V1 V (Proc.devRef .tc main_v59))) (at4 (a := 192) (b := 96) (c := 3) (d := 3) (V (Proc.devRef .tc main_arg3))) (at1 (a := 192) (V (Proc.devRef .tc main_arg4))) 96 192 56 := by
  have h := level1_read (V1 V)
  rw [arg1 V main_arg3 (by simp), arg1 V main_arg4 (by simp)] at h
  exact at4_level (A := V2 V (Proc.devRef .tc main_v119)) h

theorem third : at4 (a := 16) (b := 384) (c := 28) (d := 28) (V3 V (Proc.devRef .tc main_v179))
    = level (at4 (a := 16) (b := 192) (c := 56) (d := 56) (V2 V (Proc.devRef .tc main_v119))) (at4 (a := 384) (b := 192) (c := 3) (d := 3) (V (Proc.devRef .tc main_arg5))) (at1 (a := 384) (V (Proc.devRef .tc main_arg6))) 192 384 28 := by
  have h := level2_read (V2 V)
  rw [arg2 V main_arg5 (by simp), arg2 V main_arg6 (by simp)] at h
  exact at4_level (A := V3 V (Proc.devRef .tc main_v179)) h

theorem fourth (b : Fin 16) (o : Fin 768) (r c : Fin 14) : at4 (a := 16) (b := 768) (c := 14) (d := 14) (V4 V (Proc.devRef .tc main_v239)) b o r c
    = conv (at4 (a := 16) (b := 384) (c := 28) (d := 28) (V3 V (Proc.devRef .tc main_v179))) (at4 (a := 768) (b := 384) (c := 3) (d := 3) (V (Proc.devRef .tc main_arg7))) (at1 (a := 768) (V (Proc.devRef .tc main_arg8))) 384 b o r c := by
  have h := level3_read (V3 V) b o r c
  rw [arg3 V main_arg7 (by simp), arg3 V main_arg8 (by simp)] at h
  exact (at4_ix (a := 16) (b := 768) (c := 14) (d := 14) (V4 V (Proc.devRef .tc main_v239)) b o r c).symm.trans h

/-- The mean. -/
theorem average_code (b : Fin 16) (o : Fin 768) :
    Ideal.div (∑ x : Fin 14, ∑ y : Fin 14, at4 (a := 16) (b := 768) (c := 14) (d := 14) (V4 V (Proc.devRef .tc main_v239)) b o x y) (Ideal.ofBits FTy.f32 1128529920#32)
      = code (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) b o := by
  have h := fourth V b o
  rw [third, second, first] at h
  simp only [h]
  rfl

/-- The result. -/
theorem result (b : Fin 16) (U : Fin 768 → EReal) (B : Fin 1024 → Fin 768 → EReal)
    (hU : ∀ x : Fin 768, code (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) b x = U x) (hB : ∀ (k : Fin 1024) (x : Fin 768), (V (Proc.devRef .tc main_arg9)) (ix2 k x) = B k x) (k : Fin 1024) (hk : First (rdist U B) k)
    (o : Fin 768) (i j : Fin 1) : after ops V (Proc.devRef .tc main_v263) (ix4 b o i j) = U o + (B k o - U o) := by
  rw [after_ops]
  refine search_read (V4 V) b U B (fun o => (average_code V b o).trans (hU o)) ?_ k hk o i j
  rw [arg4 V main_arg9 (by simp)]
  exact hB

end Cert.ReferenceIdeal.Line

end
-- ==== Proof.Agree.lean ====
/-
  The two memories' agreement on the arguments, as one proposition: the equalities between buffers of two programs are
  checked here once and used by name everywhere else.
-/
module

public import proofs.«01_k».proof.KernelIdeal
public import proofs.«01_k».proof.ReferenceIdeal
public import Idealize.ShloMosaic.PureOps.Ideal

@[expose] public section

noncomputable section

namespace Cert.Core

open Idealize.ShloMosaic Idealize.SL.Sem

set_option maxHeartbeats 20000000 in
/-- The reference's memory holds the kernel's arguments. -/
def Agree (m : ((ℓ : Loc Cert.KernelIdeal.nD Cert.KernelIdeal.τ Cert.KernelIdeal.sig) → Buf (Elt Ideal) ℓ)) (m' : ((ℓ : Loc Cert.ReferenceIdeal.nD Cert.ReferenceIdeal.τ Cert.ReferenceIdeal.sig) → Buf (Elt Ideal) ℓ)) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

end Cert.Core

end
-- ==== Proof.Ends.lean ====
/-
  What the reference's run ends with, as one proposition.
-/
module

public import proofs.«01_k».proof.KernelIdeal
public import proofs.«01_k».proof.ReferenceIdeal
public import Idealize.ShloMosaic.PureOps.Ideal

@[expose] public section

noncomputable section

namespace Cert.Core

open Idealize.ShloMosaic Idealize.SL.Sem

set_option maxHeartbeats 20000000 in
/-- The reference ends with the given result and its arguments unchanged. -/
def Ends (m' : ((ℓ : Loc Cert.ReferenceIdeal.nD Cert.ReferenceIdeal.τ Cert.ReferenceIdeal.sig) → Buf (Elt Ideal) ℓ)) (v0 : (c : Dev Cert.KernelIdeal.nD) → Buf (Elt Ideal) ((c.tc : Thread Cert.KernelIdeal.nD Cert.KernelIdeal.τ).loc Cert.KernelIdeal.main_v117)) (μ : ((ℓ : Loc Cert.ReferenceIdeal.nD Cert.ReferenceIdeal.τ Cert.ReferenceIdeal.sig) → Buf (Elt Ideal) ℓ)) : Prop :=
  ∀ c : Dev Cert.ReferenceIdeal.nD,
          μ ((c.tc : Thread Cert.ReferenceIdeal.nD Cert.ReferenceIdeal.τ).loc Cert.ReferenceIdeal.main_v263) = v0 c
          ∧ μ ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ μ ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ μ ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ μ ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ μ ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ μ ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ μ ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ μ ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ μ ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ μ ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)

end Cert.Core

end
-- ==== Proof.Core.lean ====
/-
  The two programs end with equal results: both compute the same means, the first least distance is at the same row of the
  codebook, and the reference's mean plus the row minus the mean is the row.
-/
module

public import proofs.«01_k».proof.Proof.Ker.Run
public import proofs.«01_k».proof.Proof.Ker.Chain4
public import proofs.«01_k».proof.Proof.Ref.Result
public import proofs.«01_k».proof.Proof.Agree
public import proofs.«01_k».proof.Proof.Ends

@[expose] public section

set_option maxRecDepth 16384

noncomputable section

namespace Cert.Core

open Idealize.ShloMosaic Idealize.ShloMosaic.StableHlo Idealize.SL.Sem Cert.Conv

/-- The reference's distances are the kernel's, moved by a real number, when the mean is real. -/
theorem first_of_first {U : Fin 768 → EReal} {B : Fin 1024 → Fin 768 → EReal} (hU : ∀ x, IsReal (U x)) {k : Fin 1024}
    (hk : First (Cert.KernelIdeal.Ker.kdist U B) k) : First (Cert.ReferenceIdeal.Line.rdist U B) k := by
  obtain ⟨r, hr⟩ := IsReal.sum fun x => (hU x).mul (hU x)
  refine First.shift r (fun j => ?_) hk
  unfold Cert.ReferenceIdeal.Line.rdist Cert.KernelIdeal.Ker.kdist
  rw [bits_two, ← hr]
  exact distance_shift U (B j) 2 (by norm_num)

/-- The arguments but the codebook are real. -/
def Reals (m : ((ℓ : Loc Cert.KernelIdeal.nD Cert.KernelIdeal.τ Cert.KernelIdeal.sig) → Buf (Elt Ideal) ℓ)) : Prop :=
  ∀ c : Dev Cert.KernelIdeal.nD, (∀ i : (⟨4, ![16, 3, 224, 224]⟩ : Shape).Idx, IsReal (m ((c.tc : Thread Cert.KernelIdeal.nD Cert.KernelIdeal.τ).loc Cert.KernelIdeal.main_arg0) i)) ∧ (∀ i : (⟨4, ![96, 3, 3, 3]⟩ : Shape).Idx, IsReal (m ((c.tc : Thread Cert.KernelIdeal.nD Cert.KernelIdeal.τ).loc Cert.KernelIdeal.main_arg1) i)) ∧ (∀ i : (⟨1, ![96]⟩ : Shape).Idx, IsReal (m ((c.tc : Thread Cert.KernelIdeal.nD Cert.KernelIdeal.τ).loc Cert.KernelIdeal.main_arg2) i)) ∧ (∀ i : (⟨4, ![192, 96, 3, 3]⟩ : Shape).Idx, IsReal (m ((c.tc : Thread Cert.KernelIdeal.nD Cert.KernelIdeal.τ).loc Cert.KernelIdeal.main_arg3) i)) ∧ (∀ i : (⟨1, ![192]⟩ : Shape).Idx, IsReal (m ((c.tc : Thread Cert.KernelIdeal.nD Cert.KernelIdeal.τ).loc Cert.KernelIdeal.main_arg4) i)) ∧ (∀ i : (⟨4, ![384, 192, 3, 3]⟩ : Shape).Idx, IsReal (m ((c.tc : Thread Cert.KernelIdeal.nD Cert.KernelIdeal.τ).loc Cert.KernelIdeal.main_arg5) i)) ∧ (∀ i : (⟨1, ![384]⟩ : Shape).Idx, IsReal (m ((c.tc : Thread Cert.KernelIdeal.nD Cert.KernelIdeal.τ).loc Cert.KernelIdeal.main_arg6) i)) ∧ (∀ i : (⟨4, ![768, 384, 3, 3]⟩ : Shape).Idx, IsReal (m ((c.tc : Thread Cert.KernelIdeal.nD Cert.KernelIdeal.τ).loc Cert.KernelIdeal.main_arg7) i)) ∧ (∀ i : (⟨1, ![768]⟩ : Shape).Idx, IsReal (m ((c.tc : Thread Cert.KernelIdeal.nD Cert.KernelIdeal.τ).loc Cert.KernelIdeal.main_arg8) i))

set_option maxHeartbeats 20000000 in
/-- The kernel's result at one position, against the mean and the codebook. -/
theorem results (m : ((ℓ : Loc Cert.KernelIdeal.nD Cert.KernelIdeal.τ Cert.KernelIdeal.sig) → Buf (Elt Ideal) ℓ)) (g : Dev Cert.KernelIdeal.nD → PrngReg) (m' : ((ℓ : Loc Cert.ReferenceIdeal.nD Cert.ReferenceIdeal.τ Cert.ReferenceIdeal.sig) → Buf (Elt Ideal) ℓ)) (hm : Reals m) (ha : Agree m m') (c : Dev Cert.KernelIdeal.nD)
    (b : Fin 16) (o : Fin 768) (i j : Fin 1) :
    (after Cert.ReferenceIdeal.Line.ops (launchContents m' c) (Proc.devRef .tc Cert.ReferenceIdeal.main_v263) : (⟨4, ![16, 768, 1, 1]⟩ : Shape).Idx → EReal) (ix4 b o i j)
      = (Cert.KernelIdeal.Gen.W50 m g c (Proc.devRef .tc Cert.KernelIdeal.main_v117) : (⟨4, ![16, 768, 1, 1]⟩ : Shape).Idx → EReal) (ix4 b o i j) := by
  obtain ⟨r0, r1, r2, r3, r4, r5, r6, r7, r8⟩ := hm c
  obtain ⟨U, hU⟩ : ∃ U : Fin 768 → EReal, ∀ x : Fin 768, code (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) b x = U x := ⟨_, fun _ => rfl⟩
  obtain ⟨B, hB⟩ : ∃ B : Fin 1024 → Fin 768 → EReal, ∀ (k : Fin 1024) (x : Fin 768), (m ((c.tc : Thread Cert.KernelIdeal.nD Cert.KernelIdeal.τ).loc Cert.KernelIdeal.main_arg9)) (ix2 k x) = B k x := ⟨_, fun _ _ => rfl⟩
  obtain ⟨k, hk⟩ := exists_first (by norm_num) (Cert.KernelIdeal.Ker.kdist U B)
  have hr : ∀ x, IsReal (U x) := fun x => hU x ▸ IsReal.code r0 r1 r2 r3 r4 r5 r6 r7 r8 b x
  have hK := Cert.KernelIdeal.Ker.result m g c b U B (fun x => (Cert.KernelIdeal.Ker.means m g c b x).trans (hU x)) hB k hk o i j
  have hc := code_congr (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2.1
  have hR := Cert.ReferenceIdeal.Line.result (launchContents m' c) b U B (fun x => (congrFun (congrFun hc b) x).trans (hU x))
    (fun k x => (congrFun (ha c).2.2.2.2.2.2.2.2.2 (ix2 k x)).trans (hB k x)) k (first_of_first hr hk) o i j
  exact hR.trans ((add_sub_real (hr o) (B k o)).trans hK.symm)

set_option maxHeartbeats 20000000 in
/-- Both programs run and end with equal results. -/
theorem equal (P : ((ℓ : Loc Cert.KernelIdeal.nD Cert.KernelIdeal.τ Cert.KernelIdeal.sig) → Buf (Elt Ideal) ℓ) → Prop) (hP : ∀ m, P m → Reals m)
    (m : ((ℓ : Loc Cert.KernelIdeal.nD Cert.KernelIdeal.τ Cert.KernelIdeal.sig) → Buf (Elt Ideal) ℓ)) (g : Dev Cert.KernelIdeal.nD → PrngReg) (m' : ((ℓ : Loc Cert.ReferenceIdeal.nD Cert.ReferenceIdeal.τ Cert.ReferenceIdeal.sig) → Buf (Elt Ideal) ℓ)) (g' : Dev Cert.ReferenceIdeal.nD → PrngReg) (hm : P m) (ha : Agree m m') :
    ∃ v0 : (c : Dev Cert.KernelIdeal.nD) → Buf (Elt Ideal) ((c.tc : Thread Cert.KernelIdeal.nD Cert.KernelIdeal.τ).loc Cert.KernelIdeal.main_v117),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => Ends m' v0 r.2.mem) := by
  refine ⟨fun c => Cert.KernelIdeal.Gen.W50 m g c (Proc.devRef .tc Cert.KernelIdeal.main_v117), ?_, ?_⟩
  · exact (θ_run _ _ _).mono (fun r h c => ⟨h.1 c, h.2.1 c⟩) (Cert.KernelIdeal.Ker.run m g)
  · refine (θ_run _ _ _).mono (fun r h c => ⟨(h.1 c).trans ?_, h.2.1 c⟩) (Cert.ReferenceIdeal.Line.run_full m' g')
    funext x
    rw [eq_ix4 (n0 := 16) (n1 := 768) (n2 := 1) (n3 := 1) x]
    exact results m g m' (hP m hm) ha c _ _ _ _

end Cert.Core

end
-- ==== Proof.lean ====
/-
  The claim: three frames, the named constant, and the equality of the two programs' results, each from the module that
  proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref.Run
public import proofs.«01_k».proof.Proof.Finite
public import proofs.«01_k».proof.Proof.Core
public import Idealize.ShloMosaic.Adequacy
public import Idealize.ShloMosaic.Init

@[expose] public section

noncomputable section

namespace Cert.Proof

open Idealize.ShloMosaic Idealize.SL.Sem

instance : Cert.Pre_finite.Facts := Cert.Pre_finite.bcasts

/-- The precondition gives real arguments. -/
theorem reals (m : (ℓ : Loc Cert.KernelIdeal.nD Cert.KernelIdeal.τ Cert.KernelIdeal.sig) → Buf (Elt Ideal) ℓ)
    (h : Cert.Pre_KernelIdeal_finite m) : Cert.Core.Reals m :=
  fun c => Cert.Pre_finite.reals _ _ _ _ _ _ _ _ _ _ (h c)

theorem kernel_frame : Cert.quiescent_Kernel := fun m g _ => Cert.Kernel.Gen.frame m g

theorem ideal_frame : Cert.quiescent_KernelIdeal := fun m g _ => Cert.KernelIdeal.Gen.frame m g

theorem ideal_frame_finite : Cert.quiescent_KernelIdeal_pre_finite := fun m g _ => Cert.KernelIdeal.Gen.frame m g

theorem reference_frame : Cert.quiescent_ReferenceIdeal :=
  fun m g _ => (θ_run _ _ _).mono (fun _ h => h.2) (Cert.ReferenceIdeal.Line.run_full m g)

theorem reference_frame_finite : Cert.quiescent_ReferenceIdeal_pre_finite :=
  fun m g _ => (θ_run _ _ _).mono (fun _ h => h.2) (Cert.ReferenceIdeal.Line.run_full m g)

theorem constant : Cert.preserves_Kernel_KernelIdeal :=
  IdealRules.named_const.statement Cert.KernelIdeal.κ "inv196" .f32 0x3BA72F05#32 _ rfl

theorem results : Cert.algebraic_KernelIdeal_ReferenceIdeal_pre_finite :=
  Cert.Core.equal Cert.Pre_KernelIdeal_finite reals

theorem claim : Cert.Claim :=
  ⟨Cert.Kernel.Gen.facts, Cert.KernelIdeal.Gen.facts, Cert.ReferenceIdeal.Gen.facts, Cert.Pre_finite.bcasts,
    kernel_frame, ideal_frame, ideal_frame_finite, reference_frame, reference_frame_finite, constant, results⟩

end Cert.Proof

end
